-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real [hPre_real : Cert.Pre_real.Facts] (m : (ℓ : Loc Cert.KernelIdeal.nD Cert.KernelIdeal.τ Cert.KernelIdeal.sig) → Buf (Elt Ideal) ℓ) : Prop :=
  ∀ c : Dev Cert.KernelIdeal.nD,
    (Cert.Pre_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real [hPre_real : Cert.Pre_real.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Relayout (m : (ℓ : Loc Cert.Relayout.nD Cert.Relayout.τ Cert.Relayout.sig) → Buf (Elt Bits) ℓ) : Prop :=
  True

def Pre_RelayoutReference (m : (ℓ : Loc Cert.RelayoutReference.nD Cert.RelayoutReference.τ Cert.RelayoutReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_real [hKernelIdeal : Cert.KernelIdeal.Facts] [hPre_real : Cert.Pre_real.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_real [hReferenceIdeal : Cert.ReferenceIdeal.Facts] [hPre_real : Cert.Pre_real.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Relayout [hRelayout : Cert.Relayout.Facts] : Prop :=
  ∀ (m : (ℓ : Loc Cert.Relayout.nD Cert.Relayout.τ Cert.Relayout.sig) → Buf (Elt Bits) ℓ) (g : Dev Cert.Relayout.nD → PrngReg), Pre_Relayout m →
    θ_run (Cert.Relayout.defs (F := Bits)) (onTc (τ := Cert.Relayout.τ) (Cert.Relayout.main (F := Bits))) ⟨m, fun _ => 0, g⟩ (fun r => (∀ c : Dev Cert.Relayout.nD,
      r.2.mem ((c.tc : Thread Cert.Relayout.nD Cert.Relayout.τ).loc Cert.Relayout.main_arg0) = m ((c.tc : Thread Cert.Relayout.nD Cert.Relayout.τ).loc Cert.Relayout.main_arg0))
      ∧ r.2.sem = fun _ => 0)

def quiescent_RelayoutReference [hRelayoutReference : Cert.RelayoutReference.Facts] : Prop :=
  ∀ (m : (ℓ : Loc Cert.RelayoutReference.nD Cert.RelayoutReference.τ Cert.RelayoutReference.sig) → Buf (Elt Bits) ℓ) (g : Dev Cert.RelayoutReference.nD → PrngReg), Pre_RelayoutReference m →
    θ_run (Cert.RelayoutReference.defs (F := Bits)) (onTc (τ := Cert.RelayoutReference.τ) (Cert.RelayoutReference.main (F := Bits))) ⟨m, fun _ => 0, g⟩ (fun r => (∀ c : Dev Cert.RelayoutReference.nD,
      r.2.mem ((c.tc : Thread Cert.RelayoutReference.nD Cert.RelayoutReference.τ).loc Cert.RelayoutReference.main_arg0) = m ((c.tc : Thread Cert.RelayoutReference.nD Cert.RelayoutReference.τ).loc Cert.RelayoutReference.main_arg0))
      ∧ r.2.sem = fun _ => 0)

def preserves_Kernel_KernelIdeal : Prop :=
  True

def algebraic_KernelIdeal_ReferenceIdeal_pre_real [hKernelIdeal : Cert.KernelIdeal.Facts] [hReferenceIdeal : Cert.ReferenceIdeal.Facts] [hPre_real : Cert.Pre_real.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28_0) = v0 c
          ∧ r.2.mem ((c.tc : Thread Cert.ReferenceIdeal.nD Cert.ReferenceIdeal.τ).loc Cert.ReferenceIdeal.main_v28_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Relayout_RelayoutReference [hRelayout : Cert.Relayout.Facts] [hRelayoutReference : Cert.RelayoutReference.Facts] : Prop :=
  ∀ (m : (ℓ : Loc Cert.Relayout.nD Cert.Relayout.τ Cert.Relayout.sig) → Buf (Elt Bits) ℓ) (g : Dev Cert.Relayout.nD → PrngReg)
    (m' : (ℓ : Loc Cert.RelayoutReference.nD Cert.RelayoutReference.τ Cert.RelayoutReference.sig) → Buf (Elt Bits) ℓ) (g' : Dev Cert.RelayoutReference.nD → PrngReg), Pre_Relayout m →
    (∀ c : Dev Cert.Relayout.nD,
      m' ((c.tc : Thread Cert.RelayoutReference.nD Cert.RelayoutReference.τ).loc Cert.RelayoutReference.main_arg0) = m ((c.tc : Thread Cert.Relayout.nD Cert.Relayout.τ).loc Cert.Relayout.main_arg0)) →
    ∃ (v0 : (c : Dev Cert.Relayout.nD) → Buf (Elt Bits) ((c.tc : Thread Cert.Relayout.nD Cert.Relayout.τ).loc Cert.Relayout.main_v1)),
      θ_run (Cert.Relayout.defs (F := Bits)) (onTc (τ := Cert.Relayout.τ) (Cert.Relayout.main (F := Bits))) ⟨m, fun _ => 0, g⟩ (fun r => ∀ c : Dev Cert.Relayout.nD,
          r.2.mem ((c.tc : Thread Cert.Relayout.nD Cert.Relayout.τ).loc Cert.Relayout.main_v1) = v0 c
          ∧ r.2.mem ((c.tc : Thread Cert.Relayout.nD Cert.Relayout.τ).loc Cert.Relayout.main_arg0) = m ((c.tc : Thread Cert.Relayout.nD Cert.Relayout.τ).loc Cert.Relayout.main_arg0))
      ∧ θ_run (Cert.RelayoutReference.defs (F := Bits)) (onTc (τ := Cert.RelayoutReference.τ) (Cert.RelayoutReference.main (F := Bits))) ⟨m', fun _ => 0, g'⟩ (fun r => ∀ c : Dev Cert.RelayoutReference.nD,
          r.2.mem ((c.tc : Thread Cert.RelayoutReference.nD Cert.RelayoutReference.τ).loc Cert.RelayoutReference.main_v17) = v0 c
          ∧ r.2.mem ((c.tc : Thread Cert.RelayoutReference.nD Cert.RelayoutReference.τ).loc Cert.RelayoutReference.main_arg0) = m' ((c.tc : Thread Cert.RelayoutReference.nD Cert.RelayoutReference.τ).loc Cert.RelayoutReference.main_arg0))

def Claim : Prop :=
  ∃ (hKernel : Cert.Kernel.Facts) (hKernelIdeal : Cert.KernelIdeal.Facts) (hReferenceIdeal : Cert.ReferenceIdeal.Facts) (hRelayout : Cert.Relayout.Facts) (hRelayoutReference : Cert.RelayoutReference.Facts) (hPre_real : Cert.Pre_real.Facts),
    quiescent_Kernel (hKernel := hKernel)
    ∧ quiescent_KernelIdeal (hKernelIdeal := hKernelIdeal)
    ∧ quiescent_KernelIdeal_pre_real (hKernelIdeal := hKernelIdeal) (hPre_real := hPre_real)
    ∧ quiescent_ReferenceIdeal (hReferenceIdeal := hReferenceIdeal)
    ∧ quiescent_ReferenceIdeal_pre_real (hReferenceIdeal := hReferenceIdeal) (hPre_real := hPre_real)
    ∧ quiescent_Relayout (hRelayout := hRelayout)
    ∧ quiescent_RelayoutReference (hRelayoutReference := hRelayoutReference)
    ∧ preserves_Kernel_KernelIdeal
    ∧ algebraic_KernelIdeal_ReferenceIdeal_pre_real (hKernelIdeal := hKernelIdeal) (hReferenceIdeal := hReferenceIdeal) (hPre_real := hPre_real)
    ∧ bitexact_Relayout_RelayoutReference (hRelayout := hRelayout) (hRelayoutReference := hRelayoutReference)
-- ==== Pre_real.lean ====
abbrev S4096x256 : Shape := ⟨2, ![4096, 256]⟩
abbrev S262144x64 : Shape := ⟨2, ![262144, 64]⟩
abbrev S262144 : Shape := ⟨1, ![262144]⟩
abbrev S_ : Shape := ⟨0, ![]⟩

class Facts : Prop where
  bcast_S_S262144x64 : S_.BroadcastsInDim S262144x64 (![] : Fin 0 → Fin S262144x64.rank)
  bcast_S_S4096x256 : S_.BroadcastsInDim S4096x256 (![] : Fin 0 → Fin S4096x256.rank)
  bcast_S_S262144 : S_.BroadcastsInDim S262144 (![] : Fin 0 → Fin S262144.rank)

variable [Facts]

def fn_part1 {F : FTy → Type} [FloatOps F] (main_arg0 : FVec F S4096x256 .bf16) (main_arg1 : IVec S262144x64 32) (main_arg2 : FVec F S262144 .f32) (main_v5 : IVec S262144x64 1) (main_v11 : IVec S262144x64 1) (main_v15 : IVec S262144x64 32) : IVec S4096x256 1 × IVec S262144x64 1 × IVec S262144 1 :=
  let main_c_7 : IVec S_ 32 := constantI S_ 32 127#32
  let main_v16 : IVec S262144x64 32 := broadcastInDim S262144x64 ![] bcast_S_S262144x64 main_c_7
  let main_v17 : IVec S262144x64 1 := cmpi .ne main_v15 main_v16
  let main_c_8 : IVec S_ 32 := constantI S_ 32 24#32
  let main_v18 : IVec S262144x64 32 := broadcastInDim S262144x64 ![] bcast_S_S262144x64 main_c_8
  let main_v19 : IVec S262144x64 32 := Host.shrsi main_arg1 main_v18
  let main_c_9 : IVec S_ 32 := constantI S_ 32 127#32
  let main_v20 : IVec S262144x64 32 := broadcastInDim S262144x64 ![] bcast_S_S262144x64 main_c_9
  let main_v21 : IVec S262144x64 32 := andi main_v19 main_v20
  let main_c_10 : IVec S_ 32 := constantI S_ 32 127#32
  let main_v22 : IVec S262144x64 32 := broadcastInDim S262144x64 ![] bcast_S_S262144x64 main_c_10
  let main_v23 : IVec S262144x64 1 := cmpi .ne main_v21 main_v22
  let main_v24 : FVec F S4096x256 .bf16 := Host.absf main_arg0
  let main_cst : FVec F S_ .bf16 := constant S_ .bf16 0x7F80#16
  let main_v25 : FVec F S4096x256 .bf16 := broadcastInDim S4096x256 ![] bcast_S_S4096x256 main_cst
  let main_v26 : IVec S4096x256 1 := cmpf .olt main_v24 main_v25
  let main_v27 : IVec S262144x64 1 := andi main_v5 main_v11
  let main_v28 : IVec S262144x64 1 := andi main_v27 main_v17
  let main_v29 : IVec S262144x64 1 := andi main_v28 main_v23
  let main_v30 : FVec F S262144 .f32 := Host.absf main_arg2
  let main_cst_11 : FVec F S_ .f32 := constant S_ .f32 0x7F800000#32
  let main_v31 : FVec F S262144 .f32 := broadcastInDim S262144 ![] bcast_S_S262144 main_cst_11
  let main_v32 : IVec S262144 1 := cmpf .olt main_v30 main_v31
  (main_v26, main_v29, main_v32)

def fn {F : FTy → Type} [FloatOps F] (main_arg0 : FVec F S4096x256 .bf16) (main_arg1 : IVec S262144x64 32) (main_arg2 : FVec F S262144 .f32) : IVec S4096x256 1 × IVec S262144x64 1 × IVec S262144 1 :=
  let main_c : IVec S_ 32 := constantI S_ 32 0#32
  let main_v0 : IVec S262144x64 32 := broadcastInDim S262144x64 ![] bcast_S_S262144x64 main_c
  let main_v1 : IVec S262144x64 32 := Host.shrsi main_arg1 main_v0
  let main_c_0 : IVec S_ 32 := constantI S_ 32 127#32
  let main_v2 : IVec S262144x64 32 := broadcastInDim S262144x64 ![] bcast_S_S262144x64 main_c_0
  let main_v3 : IVec S262144x64 32 := andi main_v1 main_v2
  let main_c_1 : IVec S_ 32 := constantI S_ 32 127#32
  let main_v4 : IVec S262144x64 32 := broadcastInDim S262144x64 ![] bcast_S_S262144x64 main_c_1
  let main_v5 : IVec S262144x64 1 := cmpi .ne main_v3 main_v4
  let main_c_2 : IVec S_ 32 := constantI S_ 32 8#32
  let main_v6 : IVec S262144x64 32 := broadcastInDim S262144x64 ![] bcast_S_S262144x64 main_c_2
  let main_v7 : IVec S262144x64 32 := Host.shrsi main_arg1 main_v6
  let main_c_3 : IVec S_ 32 := constantI S_ 32 127#32
  let main_v8 : IVec S262144x64 32 := broadcastInDim S262144x64 ![] bcast_S_S262144x64 main_c_3
  let main_v9 : IVec S262144x64 32 := andi main_v7 main_v8
  let main_c_4 : IVec S_ 32 := constantI S_ 32 127#32
  let main_v10 : IVec S262144x64 32 := broadcastInDim S262144x64 ![] bcast_S_S262144x64 main_c_4
  let main_v11 : IVec S262144x64 1 := cmpi .ne main_v9 main_v10
  let main_c_5 : IVec S_ 32 := constantI S_ 32 16#32
  let main_v12 : IVec S262144x64 32 := broadcastInDim S262144x64 ![] bcast_S_S262144x64 main_c_5
  let main_v13 : IVec S262144x64 32 := Host.shrsi main_arg1 main_v12
  let main_c_6 : IVec S_ 32 := constantI S_ 32 127#32
  let main_v14 : IVec S262144x64 32 := broadcastInDim S262144x64 ![] bcast_S_S262144x64 main_c_6
  let main_v15 : IVec S262144x64 32 := andi main_v13 main_v14
  fn_part1 (F := F) main_arg0 main_arg1 main_arg2 main_v5 main_v11 main_v15
-- ==== Kernel.lean ====
abbrev S4096x256 : Shape := ⟨2, ![4096, 256]⟩
abbrev S262144x64 : Shape := ⟨2, ![262144, 64]⟩
abbrev S262144 : Shape := ⟨1, ![262144]⟩
abbrev S131072x128 : Shape := ⟨2, ![131072, 128]⟩
abbrev S2x1024x128 : Shape := ⟨3, ![2, 1024, 128]⟩
abbrev S64x4096 : Shape := ⟨2, ![64, 4096]⟩
abbrev S128x256 : Shape := ⟨2, ![128, 256]⟩
abbrev S4096x128 : Shape := ⟨2, ![4096, 128]⟩
abbrev S2x32x128 : Shape := ⟨3, ![2, 32, 128]⟩
abbrev S64x128 : Shape := ⟨2, ![64, 128]⟩
abbrev S512x512 : Shape := ⟨2, ![512, 512]⟩
abbrev S128x128 : Shape := ⟨2, ![128, 128]⟩
abbrev S16x128 : Shape := ⟨2, ![16, 128]⟩
abbrev S16x512 : Shape := ⟨2, ![16, 512]⟩
abbrev S8x128 : Shape := ⟨2, ![8, 128]⟩
abbrev S32x128 : Shape := ⟨2, ![32, 128]⟩
abbrev S16x256 : Shape := ⟨2, ![16, 256]⟩
abbrev S32x512 : Shape := ⟨2, ![32, 512]⟩
abbrev S1x4x128 : Shape := ⟨3, ![1, 4, 128]⟩
abbrev S4x128 : Shape := ⟨2, ![4, 128]⟩
abbrev S1x128 : Shape := ⟨2, ![1, 128]⟩
abbrev S1x512 : Shape := ⟨2, ![1, 512]⟩
abbrev S16 : Shape := ⟨1, ![16]⟩
abbrev S16x1 : Shape := ⟨2, ![16, 1]⟩
abbrev S4096x64 : Shape := ⟨2, ![4096, 64]⟩

abbrev nBuf : Space → Nat
  | .hbm => 8
  | .vmem => 12
  | .smem => 0
  | _ => 0

abbrev bufTy : (tb : Table) → Fin (tcTables nBuf tb) → BufTy
  | .hbm, ⟨0, _⟩ => ⟨S4096x256, .bf16⟩
  | .hbm, ⟨1, _⟩ => ⟨S262144x64, .i32⟩
  | .hbm, ⟨2, _⟩ => ⟨S262144, .f32⟩
  | .hbm, ⟨3, _⟩ => ⟨S131072x128, .i32⟩
  | .hbm, ⟨4, _⟩ => ⟨S2x1024x128, .f32⟩
  | .hbm, ⟨5, _⟩ => ⟨S4096x256, .bf16⟩
  | .hbm, ⟨6, _⟩ => ⟨S64x4096, .f32⟩
  | .hbm, ⟨7, _⟩ => ⟨S4096x64, .f32⟩
  | .local _ .vmem, ⟨0, _⟩ => ⟨S128x256, .bf16⟩
  | .local _ .vmem, ⟨1, _⟩ => ⟨S128x256, .bf16⟩
  | .local _ .vmem, ⟨2, _⟩ => ⟨S4096x128, .i32⟩
  | .local _ .vmem, ⟨3, _⟩ => ⟨S4096x128, .i32⟩
  | .local _ .vmem, ⟨4, _⟩ => ⟨S2x32x128, .f32⟩
  | .local _ .vmem, ⟨5, _⟩ => ⟨S2x32x128, .f32⟩
  | .local _ .vmem, ⟨6, _⟩ => ⟨S128x256, .bf16⟩
  | .local _ .vmem, ⟨7, _⟩ => ⟨S128x256, .bf16⟩
  | .local _ .vmem, ⟨8, _⟩ => ⟨S64x128, .f32⟩
  | .local _ .vmem, ⟨9, _⟩ => ⟨S64x128, .f32⟩
  | .local _ .vmem, ⟨10, _⟩ => ⟨S512x512, .bf16⟩
  | .local _ .vmem, ⟨11, _⟩ => ⟨S128x128, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_4 : BitVec 32 := 0#32
  let c8_i32 : BitVec 32 := 8#32
  let v30 : BitVec 32 := Scalar.addi c0_i32_4 c8_i32
  let c1_i32_5 : BitVec 32 := 1#32
  ⟨c0_i32_4, v30, c1_i32_5⟩
def k0_mult1 (k0_t1 : Fin k0_t1_loop.trips) : BitVec 32 :=
  let c0_i32_11 : BitVec 32 := 0#32
  let c0_i32_4 : BitVec 32 := 0#32
  let c1_i32_5 : BitVec 32 := 1#32
  let arg8 : BitVec 32 := Scf.iv c0_i32_4 c1_i32_5 k0_t1
  let c1_i32_10 : BitVec 32 := 1#32
  let v35 : BitVec 32 := Scalar.muli arg8 c1_i32_10
  let v36 : BitVec 32 := Scalar.addi c0_i32_11 v35
  let c16_i32 : BitVec 32 := 16#32
  let v37 : BitVec 32 := Scalar.muli v36 c16_i32
  let c0_i32_12 : BitVec 32 := 0#32
  let v38 : BitVec 32 := Scalar.addi v37 c0_i32_12
  let c32_i32_13 : BitVec 32 := 32#32
  let v39 : BitVec 32 := Scalar.muli v38 c32_i32_13
  v39
def k0_off1 (k0_t1 : Fin k0_t1_loop.trips) (c0_i32_12 : BitVec 32) (c0_i32_14 : BitVec 32) : Fin 2 → Nat :=
  let c0_i32_11 : BitVec 32 := 0#32
  let c0_i32_4 : BitVec 32 := 0#32
  let c1_i32_5 : BitVec 32 := 1#32
  let arg8 : BitVec 32 := Scf.iv c0_i32_4 c1_i32_5 k0_t1
  let c1_i32_10 : BitVec 32 := 1#32
  let v35 : BitVec 32 := Scalar.muli arg8 c1_i32_10
  let v36 : BitVec 32 := Scalar.addi c0_i32_11 v35
  let c16_i32 : BitVec 32 := 16#32
  let v37 : BitVec 32 := Scalar.muli v36 c16_i32
  let v38 : BitVec 32 := Scalar.addi v37 c0_i32_12
  let c32_i32_13 : BitVec 32 := 32#32
  let v39 : BitVec 32 := Scalar.muli v38 c32_i32_13
  let v40 : BitVec 32 := v39
  let v41 : BitVec 32 := Scalar.addi v40 c0_i32_14
  let v42 : Index := Scalar.indexCast v41
  let c0_15 : Index := 0#32
  ![v42.toNat, 0]
def k0_mult2 (k0_t1 : Fin k0_t1_loop.trips) : BitVec 32 :=
  let c0_i32_11 : BitVec 32 := 0#32
  let c0_i32_4 : BitVec 32 := 0#32
  let c1_i32_5 : BitVec 32 := 1#32
  let arg8 : BitVec 32 := Scf.iv c0_i32_4 c1_i32_5 k0_t1
  let c1_i32_10 : BitVec 32 := 1#32
  let v35 : BitVec 32 := Scalar.muli arg8 c1_i32_10
  let v36 : BitVec 32 := Scalar.addi c0_i32_11 v35
  let c16_i32_42 : BitVec 32 := 16#32
  let v125 : BitVec 32 := Scalar.muli v36 c16_i32_42
  let c1_i32_43 : BitVec 32 := 1#32
  let v126 : BitVec 32 := Scalar.addi v125 c1_i32_43
  let c32_i32_44 : BitVec 32 := 32#32
  let v127 : BitVec 32 := Scalar.muli v126 c32_i32_44
  v127
def k0_mult3 (k0_t1 : Fin k0_t1_loop.trips) : BitVec 32 :=
  let c0_i32_11 : BitVec 32 := 0#32
  let c0_i32_4 : BitVec 32 := 0#32
  let c1_i32_5 : BitVec 32 := 1#32
  let arg8 : BitVec 32 := Scf.iv c0_i32_4 c1_i32_5 k0_t1
  let c1_i32_10 : BitVec 32 := 1#32
  let v35 : BitVec 32 := Scalar.muli arg8 c1_i32_10
  let v36 : BitVec 32 := Scalar.addi c0_i32_11 v35
  let c16_i32_80 : BitVec 32 := 16#32
  let v213 : BitVec 32 := Scalar.muli v36 c16_i32_80
  let c2_i32 : BitVec 32 := 2#32
  let v214 : BitVec 32 := Scalar.addi v213 c2_i32
  let c32_i32_81 : BitVec 32 := 32#32
  let v215 : BitVec 32 := Scalar.muli v214 c32_i32_81
  v215
def k0_mult4 (k0_t1 : Fin k0_t1_loop.trips) : BitVec 32 :=
  let c0_i32_11 : BitVec 32 := 0#32
  let c0_i32_4 : BitVec 32 := 0#32
  let c1_i32_5 : BitVec 32 := 1#32
  let arg8 : BitVec 32 := Scf.iv c0_i32_4 c1_i32_5 k0_t1
  let c1_i32_10 : BitVec 32 := 1#32
  let v35 : BitVec 32 := Scalar.muli arg8 c1_i32_10
  let v36 : BitVec 32 := Scalar.addi c0_i32_11 v35
  let c16_i32_117 : BitVec 32 := 16#32
  let v301 : BitVec 32 := Scalar.muli v36 c16_i32_117
  let c3_i32 : BitVec 32 := 3#32
  let v302 : BitVec 32 := Scalar.addi v301 c3_i32
  let c32_i32_118 : BitVec 32 := 32#32
  let v303 : BitVec 32 := Scalar.muli v302 c32_i32_118
  v303
def k0_mult5 (k0_t1 : Fin k0_t1_loop.trips) : BitVec 32 :=
  let c0_i32_11 : BitVec 32 := 0#32
  let c0_i32_4 : BitVec 32 := 0#32
  let c1_i32_5 : BitVec 32 := 1#32
  let arg8 : BitVec 32 := Scf.iv c0_i32_4 c1_i32_5 k0_t1
  let c1_i32_10 : BitVec 32 := 1#32
  let v35 : BitVec 32 := Scalar.muli arg8 c1_i32_10
  let v36 : BitVec 32 := Scalar.addi c0_i32_11 v35
  let c16_i32_154 : BitVec 32 := 16#32
  let v389 : BitVec 32 := Scalar.muli v36 c16_i32_154
  let c4_i32 : BitVec 32 := 4#32
  let v390 : BitVec 32 := Scalar.addi v389 c4_i32
  let c32_i32_155 : BitVec 32 := 32#32
  let v391 : BitVec 32 := Scalar.muli v390 c32_i32_155
  v391
def k0_mult6 (k0_t1 : Fin k0_t1_loop.trips) : BitVec 32 :=
  let c0_i32_11 : BitVec 32 := 0#32
  let c0_i32_4 : BitVec 32 := 0#32
  let c1_i32_5 : BitVec 32 := 1#32
  let arg8 : BitVec 32 := Scf.iv c0_i32_4 c1_i32_5 k0_t1
  let c1_i32_10 : BitVec 32 := 1#32
  let v35 : BitVec 32 := Scalar.muli arg8 c1_i32_10
  let v36 : BitVec 32 := Scalar.addi c0_i32_11 v35
  let c16_i32_192 : BitVec 32 := 16#32
  let v477 : BitVec 32 := Scalar.muli v36 c16_i32_192
  let c5_i32 : BitVec 32 := 5#32
  let v478 : BitVec 32 := Scalar.addi v477 c5_i32
  let c32_i32_193 : BitVec 32 := 32#32
  let v479 : BitVec 32 := Scalar.muli v478 c32_i32_193
  v479
def k0_mult7 (k0_t1 : Fin k0_t1_loop.trips) : BitVec 32 :=
  let c0_i32_11 : BitVec 32 := 0#32
  let c0_i32_4 : BitVec 32 := 0#32
  let c1_i32_5 : BitVec 32 := 1#32
  let arg8 : BitVec 32 := Scf.iv c0_i32_4 c1_i32_5 k0_t1
  let c1_i32_10 : BitVec 32 := 1#32
  let v35 : BitVec 32 := Scalar.muli arg8 c1_i32_10
  let v36 : BitVec 32 := Scalar.addi c0_i32_11 v35
  let c16_i32_229 : BitVec 32 := 16#32
  let v565 : BitVec 32 := Scalar.muli v36 c16_i32_229
  let c6_i32 : BitVec 32 := 6#32
  let v566 : BitVec 32 := Scalar.addi v565 c6_i32
  let c32_i32_230 : BitVec 32 := 32#32
  let v567 : BitVec 32 := Scalar.muli v566 c32_i32_230
  v567
def k0_mult8 (k0_t1 : Fin k0_t1_loop.trips) : BitVec 32 :=
  let c0_i32_11 : BitVec 32 := 0#32
  let c0_i32_4 : BitVec 32 := 0#32
  let c1_i32_5 : BitVec 32 := 1#32
  let arg8 : BitVec 32 := Scf.iv c0_i32_4 c1_i32_5 k0_t1
  let c1_i32_10 : BitVec 32 := 1#32
  let v35 : BitVec 32 := Scalar.muli arg8 c1_i32_10
  let v36 : BitVec 32 := Scalar.addi c0_i32_11 v35
  let c16_i32_266 : BitVec 32 := 16#32
  let v653 : BitVec 32 := Scalar.muli v36 c16_i32_266
  let c7_i32 : BitVec 32 := 7#32
  let v654 : BitVec 32 := Scalar.addi v653 c7_i32
  let c32_i32_267 : BitVec 32 := 32#32
  let v655 : BitVec 32 := Scalar.muli v654 c32_i32_267
  v655
def k0_mult9 (k0_t1 : Fin k0_t1_loop.trips) : BitVec 32 :=
  let c0_i32_11 : BitVec 32 := 0#32
  let c0_i32_4 : BitVec 32 := 0#32
  let c1_i32_5 : BitVec 32 := 1#32
  let arg8 : BitVec 32 := Scf.iv c0_i32_4 c1_i32_5 k0_t1
  let c1_i32_10 : BitVec 32 := 1#32
  let v35 : BitVec 32 := Scalar.muli arg8 c1_i32_10
  let v36 : BitVec 32 := Scalar.addi c0_i32_11 v35
  let c16_i32_303 : BitVec 32 := 16#32
  let v741 : BitVec 32 := Scalar.muli v36 c16_i32_303
  let c8_i32_304 : BitVec 32 := 8#32
  let v742 : BitVec 32 := Scalar.addi v741 c8_i32_304
  let c32_i32_305 : BitVec 32 := 32#32
  let v743 : BitVec 32 := Scalar.muli v742 c32_i32_305
  v743
def k0_mult10 (k0_t1 : Fin k0_t1_loop.trips) : BitVec 32 :=
  let c0_i32_11 : BitVec 32 := 0#32
  let c0_i32_4 : BitVec 32 := 0#32
  let c1_i32_5 : BitVec 32 := 1#32
  let arg8 : BitVec 32 := Scf.iv c0_i32_4 c1_i32_5 k0_t1
  let c1_i32_10 : BitVec 32 := 1#32
  let v35 : BitVec 32 := Scalar.muli arg8 c1_i32_10
  let v36 : BitVec 32 := Scalar.addi c0_i32_11 v35
  let c16_i32_342 : BitVec 32 := 16#32
  let v829 : BitVec 32 := Scalar.muli v36 c16_i32_342
  let c9_i32 : BitVec 32 := 9#32
  let v830 : BitVec 32 := Scalar.addi v829 c9_i32
  let c32_i32_343 : BitVec 32 := 32#32
  let v831 : BitVec 32 := Scalar.muli v830 c32_i32_343
  v831
def k0_mult11 (k0_t1 : Fin k0_t1_loop.trips) : BitVec 32 :=
  let c0_i32_11 : BitVec 32 := 0#32
  let c0_i32_4 : BitVec 32 := 0#32
  let c1_i32_5 : BitVec 32 := 1#32
  let arg8 : BitVec 32 := Scf.iv c0_i32_4 c1_i32_5 k0_t1
  let c1_i32_10 : BitVec 32 := 1#32
  let v35 : BitVec 32 := Scalar.muli arg8 c1_i32_10
  let v36 : BitVec 32 := Scalar.addi c0_i32_11 v35
  let c16_i32_379 : BitVec 32 := 16#32
  let v917 : BitVec 32 := Scalar.muli v36 c16_i32_379
  let c10_i32 : BitVec 32 := 10#32
  let v918 : BitVec 32 := Scalar.addi v917 c10_i32
  let c32_i32_380 : BitVec 32 := 32#32
  let v919 : BitVec 32 := Scalar.muli v918 c32_i32_380
  v919
def k0_mult12 (k0_t1 : Fin k0_t1_loop.trips) : BitVec 32 :=
  let c0_i32_11 : BitVec 32 := 0#32
  let c0_i32_4 : BitVec 32 := 0#32
  let c1_i32_5 : BitVec 32 := 1#32
  let arg8 : BitVec 32 := Scf.iv c0_i32_4 c1_i32_5 k0_t1
  let c1_i32_10 : BitVec 32 := 1#32
  let v35 : BitVec 32 := Scalar.muli arg8 c1_i32_10
  let v36 : BitVec 32 := Scalar.addi c0_i32_11 v35
  let c16_i32_416 : BitVec 32 := 16#32
  let v1005 : BitVec 32 := Scalar.muli v36 c16_i32_416
  let c11_i32 : BitVec 32 := 11#32
  let v1006 : BitVec 32 := Scalar.addi v1005 c11_i32
  let c32_i32_417 : BitVec 32 := 32#32
  let v1007 : BitVec 32 := Scalar.muli v1006 c32_i32_417
  v1007
def k0_mult13 (k0_t1 : Fin k0_t1_loop.trips) : BitVec 32 :=
  let c0_i32_11 : BitVec 32 := 0#32
  let c0_i32_4 : BitVec 32 := 0#32
  let c1_i32_5 : BitVec 32 := 1#32
  let arg8 : BitVec 32 := Scf.iv c0_i32_4 c1_i32_5 k0_t1
  let c1_i32_10 : BitVec 32 := 1#32
  let v35 : BitVec 32 := Scalar.muli arg8 c1_i32_10
  let v36 : BitVec 32 := Scalar.addi c0_i32_11 v35
  let c16_i32_453 : BitVec 32 := 16#32
  let v1093 : BitVec 32 := Scalar.muli v36 c16_i32_453
  let c12_i32 : BitVec 32 := 12#32
  let v1094 : BitVec 32 := Scalar.addi v1093 c12_i32
  let c32_i32_454 : BitVec 32 := 32#32
  let v1095 : BitVec 32 := Scalar.muli v1094 c32_i32_454
  v1095
def k0_mult14 (k0_t1 : Fin k0_t1_loop.trips) : BitVec 32 :=
  let c0_i32_11 : BitVec 32 := 0#32
  let c0_i32_4 : BitVec 32 := 0#32
  let c1_i32_5 : BitVec 32 := 1#32
  let arg8 : BitVec 32 := Scf.iv c0_i32_4 c1_i32_5 k0_t1
  let c1_i32_10 : BitVec 32 := 1#32
  let v35 : BitVec 32 := Scalar.muli arg8 c1_i32_10
  let v36 : BitVec 32 := Scalar.addi c0_i32_11 v35
  let c16_i32_491 : BitVec 32 := 16#32
  let v1181 : BitVec 32 := Scalar.muli v36 c16_i32_491
  let c13_i32 : BitVec 32 := 13#32
  let v1182 : BitVec 32 := Scalar.addi v1181 c13_i32
  let c32_i32_492 : BitVec 32 := 32#32
  let v1183 : BitVec 32 := Scalar.muli v1182 c32_i32_492
  v1183
def k0_mult15 (k0_t1 : Fin k0_t1_loop.trips) : BitVec 32 :=
  let c0_i32_11 : BitVec 32 := 0#32
  let c0_i32_4 : BitVec 32 := 0#32
  let c1_i32_5 : BitVec 32 := 1#32
  let arg8 : BitVec 32 := Scf.iv c0_i32_4 c1_i32_5 k0_t1
  let c1_i32_10 : BitVec 32 := 1#32
  let v35 : BitVec 32 := Scalar.muli arg8 c1_i32_10
  let v36 : BitVec 32 := Scalar.addi c0_i32_11 v35
  let c16_i32_528 : BitVec 32 := 16#32
  let v1269 : BitVec 32 := Scalar.muli v36 c16_i32_528
  let c14_i32 : BitVec 32 := 14#32
  let v1270 : BitVec 32 := Scalar.addi v1269 c14_i32
  let c32_i32_529 : BitVec 32 := 32#32
  let v1271 : BitVec 32 := Scalar.muli v1270 c32_i32_529
  v1271
def k0_mult16 (k0_t1 : Fin k0_t1_loop.trips) : BitVec 32 :=
  let c0_i32_11 : BitVec 32 := 0#32
  let c0_i32_4 : BitVec 32 := 0#32
  let c1_i32_5 : BitVec 32 := 1#32
  let arg8 : BitVec 32 := Scf.iv c0_i32_4 c1_i32_5 k0_t1
  let c1_i32_10 : BitVec 32 := 1#32
  let v35 : BitVec 32 := Scalar.muli arg8 c1_i32_10
  let v36 : BitVec 32 := Scalar.addi c0_i32_11 v35
  let c16_i32_565 : BitVec 32 := 16#32
  let v1357 : BitVec 32 := Scalar.muli v36 c16_i32_565
  let c15_i32 : BitVec 32 := 15#32
  let v1358 : BitVec 32 := Scalar.addi v1357 c15_i32
  let c32_i32_566 : BitVec 32 := 32#32
  let v1359 : BitVec 32 := Scalar.muli v1358 c32_i32_566
  v1359
def k0_mult17 (k0_t1 : Fin k0_t1_loop.trips) : BitVec 32 :=
  let c0_i32_11 : BitVec 32 := 0#32
  let c0_i32_4 : BitVec 32 := 0#32
  let c1_i32_5 : BitVec 32 := 1#32
  let arg8 : BitVec 32 := Scf.iv c0_i32_4 c1_i32_5 k0_t1
  let c1_i32_10 : BitVec 32 := 1#32
  let v35 : BitVec 32 := Scalar.muli arg8 c1_i32_10
  let v36 : BitVec 32 := Scalar.addi c0_i32_11 v35
  let c16_i32_602 : BitVec 32 := 16#32
  let v1445 : BitVec 32 := Scalar.muli v36 c16_i32_602
  v1445
def k0_off2 (k0_t1 : Fin k0_t1_loop.trips) : Fin 2 → Nat :=
  let c0_i32_11 : BitVec 32 := 0#32
  let c0_i32_4 : BitVec 32 := 0#32
  let c1_i32_5 : BitVec 32 := 1#32
  let arg8 : BitVec 32 := Scf.iv c0_i32_4 c1_i32_5 k0_t1
  let c1_i32_10 : BitVec 32 := 1#32
  let v35 : BitVec 32 := Scalar.muli arg8 c1_i32_10
  let v36 : BitVec 32 := Scalar.addi c0_i32_11 v35
  let c16_i32_602 : BitVec 32 := 16#32
  let v1445 : BitVec 32 := Scalar.muli v36 c16_i32_602
  let v1446 : BitVec 32 := v1445
  let v1447 : Index := Scalar.indexCast v1446
  let c0_603 : Index := 0#32
  ![v1447.toNat, 0]
def k0_off3 (k0_t1 : Fin k0_t1_loop.trips) : Fin 3 → Nat :=
  let c0_610 : Index := 0#32
  let c0_i32_11 : BitVec 32 := 0#32
  let c0_i32_4 : BitVec 32 := 0#32
  let c1_i32_5 : BitVec 32 := 1#32
  let arg8 : BitVec 32 := Scf.iv c0_i32_4 c1_i32_5 k0_t1
  let c1_i32_10 : BitVec 32 := 1#32
  let v35 : BitVec 32 := Scalar.muli arg8 c1_i32_10
  let v36 : BitVec 32 := Scalar.addi c0_i32_11 v35
  let c4_i32_609 : BitVec 32 := 4#32
  let v1469 : BitVec 32 := Scalar.muli v36 c4_i32_609
  let v1470 : Index := Scalar.indexCast v1469
  let c0_611 : Index := 0#32
  ![0, v1470.toNat, 0]
def k0_off4 (k0_t1 : Fin k0_t1_loop.trips) : Fin 3 → Nat :=
  let c1 : Index := 1#32
  let c0_i32_11 : BitVec 32 := 0#32
  let c0_i32_4 : BitVec 32 := 0#32
  let c1_i32_5 : BitVec 32 := 1#32
  let arg8 : BitVec 32 := Scf.iv c0_i32_4 c1_i32_5 k0_t1
  let c1_i32_10 : BitVec 32 := 1#32
  let v35 : BitVec 32 := Scalar.muli arg8 c1_i32_10
  let v36 : BitVec 32 := Scalar.addi c0_i32_11 v35
  let c4_i32_612 : BitVec 32 := 4#32
  let v1478 : BitVec 32 := Scalar.muli v36 c4_i32_612
  let v1479 : Index := Scalar.indexCast v1478
  let c0_613 : Index := 0#32
  ![1, v1479.toNat, 0]
def k0_mult18 (k0_t1 : Fin k0_t1_loop.trips) : BitVec 32 :=
  let c0_i32_11 : BitVec 32 := 0#32
  let c0_i32_4 : BitVec 32 := 0#32
  let c1_i32_5 : BitVec 32 := 1#32
  let arg8 : BitVec 32 := Scf.iv c0_i32_4 c1_i32_5 k0_t1
  let c1_i32_10 : BitVec 32 := 1#32
  let v35 : BitVec 32 := Scalar.muli arg8 c1_i32_10
  let v36 : BitVec 32 := Scalar.addi c0_i32_11 v35
  let c16_i32_629 : BitVec 32 := 16#32
  let v1550 : BitVec 32 := Scalar.muli v36 c16_i32_629
  v1550
def k0_mult19 (k0_t1 : Fin k0_t1_loop.trips) : BitVec 32 :=
  let c0_i32_11 : BitVec 32 := 0#32
  let c0_i32_4 : BitVec 32 := 0#32
  let c1_i32_5 : BitVec 32 := 1#32
  let arg8 : BitVec 32 := Scf.iv c0_i32_4 c1_i32_5 k0_t1
  let c1_i32_10 : BitVec 32 := 1#32
  let v35 : BitVec 32 := Scalar.muli arg8 c1_i32_10
  let v36 : BitVec 32 := Scalar.addi c0_i32_11 v35
  let c16_i32_636 : BitVec 32 := 16#32
  let v1579 : BitVec 32 := Scalar.muli v36 c16_i32_636
  v1579
def k0_off5 (k0_t1 : Fin k0_t1_loop.trips) : Fin 2 → Nat :=
  let c0_i32_11 : BitVec 32 := 0#32
  let c0_i32_4 : BitVec 32 := 0#32
  let c1_i32_5 : BitVec 32 := 1#32
  let arg8 : BitVec 32 := Scf.iv c0_i32_4 c1_i32_5 k0_t1
  let c1_i32_10 : BitVec 32 := 1#32
  let v35 : BitVec 32 := Scalar.muli arg8 c1_i32_10
  let v36 : BitVec 32 := Scalar.addi c0_i32_11 v35
  let c16_i32_636 : BitVec 32 := 16#32
  let v1579 : BitVec 32 := Scalar.muli v36 c16_i32_636
  let v1580 : BitVec 32 := v1579
  let v1581 : Index := Scalar.indexCast v1580
  let c0_637 : Index := 0#32
  ![v1581.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x256 : Shape := ⟨2, ![4096, 256]⟩
abbrev S262144x64 : Shape := ⟨2, ![262144, 64]⟩
abbrev S262144 : Shape := ⟨1, ![262144]⟩
abbrev S4096x4x8x2x64 : Shape := ⟨5, ![4096, 4, 8, 2, 64]⟩
abbrev S4096x2x8x4x64 : Shape := ⟨5, ![4096, 2, 8, 4, 64]⟩
abbrev S4096x64x64 : Shape := ⟨3, ![4096, 64, 64]⟩
abbrev S_ : Shape := ⟨0, ![]⟩
abbrev S4096x64x1x64 : Shape := ⟨4, ![4096, 64, 1, 64]⟩
abbrev S4096x64x4x64 : Shape := ⟨4, ![4096, 64, 4, 64]⟩
abbrev S4096x64x256 : Shape := ⟨3, ![4096, 64, 256]⟩
abbrev S2x4096x32 : Shape := ⟨3, ![2, 4096, 32]⟩
abbrev S4096x2x32 : Shape := ⟨3, ![4096, 2, 32]⟩
abbrev S4096x64 : Shape := ⟨2, ![4096, 64]⟩
abbrev S4096x1x256 : Shape := ⟨3, ![4096, 1, 256]⟩
abbrev S4096x1x64 : Shape := ⟨3, ![4096, 1, 64]⟩
abbrev S4096 : Shape := ⟨1, ![4096]⟩
abbrev S4096x1 : Shape := ⟨2, ![4096, 1]⟩

abbrev nBuf : Space → Nat
  | .hbm => 41
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S262144x64, .i32⟩
  | .hbm, ⟨2, _⟩ => ⟨S262144, .f32⟩
  | .hbm, ⟨3, _⟩ => ⟨S4096x4x8x2x64, .i32⟩
  | .hbm, ⟨4, _⟩ => ⟨S4096x2x8x4x64, .i32⟩
  | .hbm, ⟨5, _⟩ => ⟨S4096x64x64, .i32⟩
  | .hbm, ⟨6, _⟩ => ⟨S_, .i32⟩
  | .hbm, ⟨7, _⟩ => ⟨S4096x64x64, .i32⟩
  | .hbm, ⟨8, _⟩ => ⟨S4096x64x64, .i32⟩
  | .hbm, ⟨9, _⟩ => ⟨S_, .i32⟩
  | .hbm, ⟨10, _⟩ => ⟨S4096x64x64, .i32⟩
  | .hbm, ⟨11, _⟩ => ⟨S4096x64x64, .i32⟩
  | .hbm, ⟨12, _⟩ => ⟨S_, .i32⟩
  | .hbm, ⟨13, _⟩ => ⟨S4096x64x64, .i32⟩
  | .hbm, ⟨14, _⟩ => ⟨S4096x64x64, .i32⟩
  | .hbm, ⟨15, _⟩ => ⟨S_, .i32⟩
  | .hbm, ⟨16, _⟩ => ⟨S4096x64x64, .i32⟩
  | .hbm, ⟨17, _⟩ => ⟨S4096x64x64, .i32⟩
  | .hbm, ⟨18, _⟩ => ⟨S_, .i32⟩
  | .hbm, ⟨19, _⟩ => ⟨S4096x64x64, .i32⟩
  | .hbm, ⟨20, _⟩ => ⟨S4096x64x64, .i32⟩
  | .hbm, ⟨21, _⟩ => ⟨S_, .i32⟩
  | .hbm, ⟨22, _⟩ => ⟨S4096x64x64, .i32⟩
  | .hbm, ⟨23, _⟩ => ⟨S4096x64x64, .i32⟩
  | .hbm, ⟨24, _⟩ => ⟨S_, .i32⟩
  | .hbm, ⟨25, _⟩ => ⟨S4096x64x64, .i32⟩
  | .hbm, ⟨26, _⟩ => ⟨S4096x64x64, .i32⟩
  | .hbm, ⟨27, _⟩ => ⟨S_, .i32⟩
  | .hbm, ⟨28, _⟩ => ⟨S4096x64x64, .i32⟩
  | .hbm, ⟨29, _⟩ => ⟨S4096x64x64, .i32⟩
  | .hbm, ⟨30, _⟩ => ⟨S4096x64x1x64, .i32⟩
  | .hbm, ⟨31, _⟩ => ⟨S4096x64x1x64, .i32⟩
  | .hbm, ⟨32, _⟩ => ⟨S4096x64x1x64, .i32⟩
  | .hbm, ⟨33, _⟩ => ⟨S4096x64x1x64, .i32⟩
  | .hbm, ⟨34, _⟩ => ⟨S4096x64x4x64, .i32⟩
  | .hbm, ⟨35, _⟩ => ⟨S4096x64x256, .i32⟩
  | .hbm, ⟨36, _⟩ => ⟨S2x4096x32, .f32⟩
  | .hbm, ⟨37, _⟩ => ⟨S4096x2x32, .f32⟩
  | .hbm, ⟨38, _⟩ => ⟨S4096x64, .f32⟩
  | .hbm, ⟨39, _⟩ => ⟨S4096x256, .bf16⟩
  | .hbm, ⟨40, _⟩ => ⟨S4096x64, .f32⟩
  | .local _ .vmem, ⟨0, _⟩ => ⟨S4096x256, .bf16⟩
  | .local _ .vmem, ⟨1, _⟩ => ⟨S4096x64x256, .i32⟩
  | .local _ .vmem, ⟨2, _⟩ => ⟨S4096x64, .f32⟩
  | .local _ .vmem, ⟨3, _⟩ => ⟨S4096x256, .bf16⟩
  | .local _ .vmem, ⟨4, _⟩ => ⟨S4096x64, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_c_3 : Ref sig .tc := ⟨.hbm, 18, rfl⟩
abbrev main_v11 : Ref sig .tc := ⟨.hbm, 19, rfl⟩
abbrev main_v12 : Ref sig .tc := ⟨.hbm, 20, rfl⟩
abbrev main_c_4 : Ref sig .tc := ⟨.hbm, 21, rfl⟩
abbrev main_v13 : Ref sig .tc := ⟨.hbm, 22, rfl⟩
abbrev main_v14 : Ref sig .tc := ⟨.hbm, 23, rfl⟩
abbrev main_c_5 : Ref sig .tc := ⟨.hbm, 24, rfl⟩
abbrev main_v15 : Ref sig .tc := ⟨.hbm, 25, rfl⟩
abbrev main_v16 : Ref sig .tc := ⟨.hbm, 26, rfl⟩
abbrev main_c_6 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28_0 : Ref sig .tc := ⟨.hbm, 39, rfl⟩
abbrev main_v28_1 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x64x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Relayout.lean ====
abbrev S900000x256 : Shape := ⟨2, ![900000, 256]⟩
abbrev S450000x128 : Shape := ⟨2, ![450000, 128]⟩
abbrev S12000x256 : Shape := ⟨2, ![12000, 256]⟩
abbrev S6000x128 : Shape := ⟨2, ![6000, 128]⟩
abbrev S8x128 : Shape := ⟨2, ![8, 128]⟩
abbrev S32x128 : Shape := ⟨2, ![32, 128]⟩
abbrev S900000x64 : Shape := ⟨2, ![900000, 64]⟩

abbrev nBuf : Space → Nat
  | .hbm => 3
  | .vmem => 4
  | .smem => 0
  | _ => 0

abbrev bufTy : (tb : Table) → Fin (tcTables nBuf tb) → BufTy
  | .hbm, ⟨0, _⟩ => ⟨S900000x256, .fp8e4m3⟩
  | .hbm, ⟨1, _⟩ => ⟨S450000x128, .i32⟩
  | .hbm, ⟨2, _⟩ => ⟨S900000x64, .i32⟩
  | .local _ .vmem, ⟨0, _⟩ => ⟨S12000x256, .fp8e4m3⟩
  | .local _ .vmem, ⟨1, _⟩ => ⟨S12000x256, .fp8e4m3⟩
  | .local _ .vmem, ⟨2, _⟩ => ⟨S6000x128, .i32⟩
  | .local _ .vmem, ⟨3, _⟩ => ⟨S6000x128, .i32⟩
  | _, _ => ⟨S900000x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![75], ![false]⟩

@[reducible] def k0_t1_loop : Scf.Loop 32 :=
  let c0_i32 : BitVec 32 := 0#32
  let c75_i32 : BitVec 32 := 75#32
  let v3 : BitVec 32 := Scalar.addi c0_i32 c75_i32
  let c1_i32 : BitVec 32 := 1#32
  ⟨c0_i32, v3, c1_i32⟩
def k0_mult1 (k0_t1 : Fin k0_t1_loop.trips) : BitVec 32 :=
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v4 : BitVec 32 := Scalar.muli arg3 c1_i32_1
  let v5 : BitVec 32 := Scalar.addi c0_i32_2 v4
  let c5_i32 : BitVec 32 := 5#32
  let v6 : BitVec 32 := Scalar.muli v5 c5_i32
  let c0_i32_3 : BitVec 32 := 0#32
  let v7 : BitVec 32 := Scalar.addi v6 c0_i32_3
  let c32_i32 : BitVec 32 := 32#32
  let v8 : BitVec 32 := Scalar.muli v7 c32_i32
  v8
def k0_off1 (k0_t1 : Fin k0_t1_loop.trips) (c0_i32_3 : BitVec 32) : Fin 2 → Nat :=
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v4 : BitVec 32 := Scalar.muli arg3 c1_i32_1
  let v5 : BitVec 32 := Scalar.addi c0_i32_2 v4
  let c5_i32 : BitVec 32 := 5#32
  let v6 : BitVec 32 := Scalar.muli v5 c5_i32
  let v7 : BitVec 32 := Scalar.addi v6 c0_i32_3
  let c32_i32 : BitVec 32 := 32#32
  let v8 : BitVec 32 := Scalar.muli v7 c32_i32
  let v9 : BitVec 32 := v8
  let v10 : Index := Scalar.indexCast v9
  let c0 : Index := 0#32
  ![v10.toNat, 0]
def k0_mult2 (k0_t1 : Fin k0_t1_loop.trips) : BitVec 32 :=
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v4 : BitVec 32 := Scalar.muli arg3 c1_i32_1
  let v5 : BitVec 32 := Scalar.addi c0_i32_2 v4
  let c5_i32 : BitVec 32 := 5#32
  let v6 : BitVec 32 := Scalar.muli v5 c5_i32
  let c0_i32_3 : BitVec 32 := 0#32
  let v7 : BitVec 32 := Scalar.addi v6 c0_i32_3
  let c32_i32_4 : BitVec 32 := 32#32
  let v13 : BitVec 32 := Scalar.muli v7 c32_i32_4
  v13
def k0_off2 (k0_t1 : Fin k0_t1_loop.trips) (c0_i32_3 : BitVec 32) : Fin 2 → Nat :=
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v4 : BitVec 32 := Scalar.muli arg3 c1_i32_1
  let v5 : BitVec 32 := Scalar.addi c0_i32_2 v4
  let c5_i32 : BitVec 32 := 5#32
  let v6 : BitVec 32 := Scalar.muli v5 c5_i32
  let v7 : BitVec 32 := Scalar.addi v6 c0_i32_3
  let c32_i32_4 : BitVec 32 := 32#32
  let v13 : BitVec 32 := Scalar.muli v7 c32_i32_4
  let v14 : BitVec 32 := v13
  let v15 : Index := Scalar.indexCast v14
  let c128 : Index := 128#32
  ![v15.toNat, 128]
def k0_mult3 (k0_t1 : Fin k0_t1_loop.trips) : BitVec 32 :=
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v4 : BitVec 32 := Scalar.muli arg3 c1_i32_1
  let v5 : BitVec 32 := Scalar.addi c0_i32_2 v4
  let c5_i32 : BitVec 32 := 5#32
  let v6 : BitVec 32 := Scalar.muli v5 c5_i32
  let c0_i32_3 : BitVec 32 := 0#32
  let v7 : BitVec 32 := Scalar.addi v6 c0_i32_3
  let c16_i32_10 : BitVec 32 := 16#32
  let v44 : BitVec 32 := Scalar.muli v7 c16_i32_10
  v44
def k0_off3 (k0_t1 : Fin k0_t1_loop.trips) (c0_i32_3 : BitVec 32) : Fin 2 → Nat :=
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v4 : BitVec 32 := Scalar.muli arg3 c1_i32_1
  let v5 : BitVec 32 := Scalar.addi c0_i32_2 v4
  let c5_i32 : BitVec 32 := 5#32
  let v6 : BitVec 32 := Scalar.muli v5 c5_i32
  let v7 : BitVec 32 := Scalar.addi v6 c0_i32_3
  let c16_i32_10 : BitVec 32 := 16#32
  let v44 : BitVec 32 := Scalar.muli v7 c16_i32_10
  let v45 : BitVec 32 := v44
  let v46 : Index := Scalar.indexCast v45
  let c0_11 : Index := 0#32
  ![v46.toNat, 0]
def k0_mult4 (k0_t1 : Fin k0_t1_loop.trips) : BitVec 32 :=
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v4 : BitVec 32 := Scalar.muli arg3 c1_i32_1
  let v5 : BitVec 32 := Scalar.addi c0_i32_2 v4
  let c5_i32 : BitVec 32 := 5#32
  let v6 : BitVec 32 := Scalar.muli v5 c5_i32
  let c0_i32_3 : BitVec 32 := 0#32
  let v7 : BitVec 32 := Scalar.addi v6 c0_i32_3
  let c16_i32_17 : BitVec 32 := 16#32
  let v60 : BitVec 32 := Scalar.muli v7 c16_i32_17
  let c8_i32_18 : BitVec 32 := 8#32
  let v61 : BitVec 32 := Scalar.addi v60 c8_i32_18
  v61
def k0_off4 (k0_t1 : Fin k0_t1_loop.trips) (c0_i32_3 : BitVec 32) : Fin 2 → Nat :=
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v4 : BitVec 32 := Scalar.muli arg3 c1_i32_1
  let v5 : BitVec 32 := Scalar.addi c0_i32_2 v4
  let c5_i32 : BitVec 32 := 5#32
  let v6 : BitVec 32 := Scalar.muli v5 c5_i32
  let v7 : BitVec 32 := Scalar.addi v6 c0_i32_3
  let c16_i32_17 : BitVec 32 := 16#32
  let v60 : BitVec 32 := Scalar.muli v7 c16_i32_17
  let c8_i32_18 : BitVec 32 := 8#32
  let v61 : BitVec 32 := Scalar.addi v60 c8_i32_18
  let v62 : BitVec 32 := v61
  let v63 : Index := Scalar.indexCast v62
  let c0_19 : Index := 0#32
  ![v63.toNat, 0]
def k0_mult5 (k0_t1 : Fin k0_t1_loop.trips) : BitVec 32 :=
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v4 : BitVec 32 := Scalar.muli arg3 c1_i32_1
  let v5 : BitVec 32 := Scalar.addi c0_i32_2 v4
  let c5_i32_20 : BitVec 32 := 5#32
  let v65 : BitVec 32 := Scalar.muli v5 c5_i32_20
  let c1_i32_21 : BitVec 32 := 1#32
  let v66 : BitVec 32 := Scalar.addi v65 c1_i32_21
  let c32_i32_22 : BitVec 32 := 32#32
  let v67 : BitVec 32 := Scalar.muli v66 c32_i32_22
  v67
def k0_mult6 (k0_t1 : Fin k0_t1_loop.trips) : BitVec 32 :=
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v4 : BitVec 32 := Scalar.muli arg3 c1_i32_1
  let v5 : BitVec 32 := Scalar.addi c0_i32_2 v4
  let c5_i32_20 : BitVec 32 := 5#32
  let v65 : BitVec 32 := Scalar.muli v5 c5_i32_20
  let c1_i32_21 : BitVec 32 := 1#32
  let v66 : BitVec 32 := Scalar.addi v65 c1_i32_21
  let c32_i32_24 : BitVec 32 := 32#32
  let v72 : BitVec 32 := Scalar.muli v66 c32_i32_24
  v72
def k0_mult7 (k0_t1 : Fin k0_t1_loop.trips) : BitVec 32 :=
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v4 : BitVec 32 := Scalar.muli arg3 c1_i32_1
  let v5 : BitVec 32 := Scalar.addi c0_i32_2 v4
  let c5_i32_20 : BitVec 32 := 5#32
  let v65 : BitVec 32 := Scalar.muli v5 c5_i32_20
  let c1_i32_21 : BitVec 32 := 1#32
  let v66 : BitVec 32 := Scalar.addi v65 c1_i32_21
  let c16_i32_37 : BitVec 32 := 16#32
  let v103 : BitVec 32 := Scalar.muli v66 c16_i32_37
  v103
def k0_mult8 (k0_t1 : Fin k0_t1_loop.trips) : BitVec 32 :=
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v4 : BitVec 32 := Scalar.muli arg3 c1_i32_1
  let v5 : BitVec 32 := Scalar.addi c0_i32_2 v4
  let c5_i32_20 : BitVec 32 := 5#32
  let v65 : BitVec 32 := Scalar.muli v5 c5_i32_20
  let c1_i32_21 : BitVec 32 := 1#32
  let v66 : BitVec 32 := Scalar.addi v65 c1_i32_21
  let c16_i32_44 : BitVec 32 := 16#32
  let v119 : BitVec 32 := Scalar.muli v66 c16_i32_44
  let c8_i32_45 : BitVec 32 := 8#32
  let v120 : BitVec 32 := Scalar.addi v119 c8_i32_45
  v120
def k0_mult9 (k0_t1 : Fin k0_t1_loop.trips) : BitVec 32 :=
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v4 : BitVec 32 := Scalar.muli arg3 c1_i32_1
  let v5 : BitVec 32 := Scalar.addi c0_i32_2 v4
  let c5_i32_47 : BitVec 32 := 5#32
  let v124 : BitVec 32 := Scalar.muli v5 c5_i32_47
  let c2_i32 : BitVec 32 := 2#32
  let v125 : BitVec 32 := Scalar.addi v124 c2_i32
  let c32_i32_48 : BitVec 32 := 32#32
  let v126 : BitVec 32 := Scalar.muli v125 c32_i32_48
  v126
def k0_mult10 (k0_t1 : Fin k0_t1_loop.trips) : BitVec 32 :=
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v4 : BitVec 32 := Scalar.muli arg3 c1_i32_1
  let v5 : BitVec 32 := Scalar.addi c0_i32_2 v4
  let c5_i32_47 : BitVec 32 := 5#32
  let v124 : BitVec 32 := Scalar.muli v5 c5_i32_47
  let c2_i32 : BitVec 32 := 2#32
  let v125 : BitVec 32 := Scalar.addi v124 c2_i32
  let c32_i32_50 : BitVec 32 := 32#32
  let v131 : BitVec 32 := Scalar.muli v125 c32_i32_50
  v131
def k0_mult11 (k0_t1 : Fin k0_t1_loop.trips) : BitVec 32 :=
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v4 : BitVec 32 := Scalar.muli arg3 c1_i32_1
  let v5 : BitVec 32 := Scalar.addi c0_i32_2 v4
  let c5_i32_47 : BitVec 32 := 5#32
  let v124 : BitVec 32 := Scalar.muli v5 c5_i32_47
  let c2_i32 : BitVec 32 := 2#32
  let v125 : BitVec 32 := Scalar.addi v124 c2_i32
  let c16_i32_63 : BitVec 32 := 16#32
  let v162 : BitVec 32 := Scalar.muli v125 c16_i32_63
  v162
def k0_mult12 (k0_t1 : Fin k0_t1_loop.trips) : BitVec 32 :=
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v4 : BitVec 32 := Scalar.muli arg3 c1_i32_1
  let v5 : BitVec 32 := Scalar.addi c0_i32_2 v4
  let c5_i32_47 : BitVec 32 := 5#32
  let v124 : BitVec 32 := Scalar.muli v5 c5_i32_47
  let c2_i32 : BitVec 32 := 2#32
  let v125 : BitVec 32 := Scalar.addi v124 c2_i32
  let c16_i32_70 : BitVec 32 := 16#32
  let v178 : BitVec 32 := Scalar.muli v125 c16_i32_70
  let c8_i32_71 : BitVec 32 := 8#32
  let v179 : BitVec 32 := Scalar.addi v178 c8_i32_71
  v179
def k0_mult13 (k0_t1 : Fin k0_t1_loop.trips) : BitVec 32 :=
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v4 : BitVec 32 := Scalar.muli arg3 c1_i32_1
  let v5 : BitVec 32 := Scalar.addi c0_i32_2 v4
  let c5_i32_73 : BitVec 32 := 5#32
  let v183 : BitVec 32 := Scalar.muli v5 c5_i32_73
  let c3_i32 : BitVec 32 := 3#32
  let v184 : BitVec 32 := Scalar.addi v183 c3_i32
  let c32_i32_74 : BitVec 32 := 32#32
  let v185 : BitVec 32 := Scalar.muli v184 c32_i32_74
  v185
def k0_mult14 (k0_t1 : Fin k0_t1_loop.trips) : BitVec 32 :=
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v4 : BitVec 32 := Scalar.muli arg3 c1_i32_1
  let v5 : BitVec 32 := Scalar.addi c0_i32_2 v4
  let c5_i32_73 : BitVec 32 := 5#32
  let v183 : BitVec 32 := Scalar.muli v5 c5_i32_73
  let c3_i32 : BitVec 32 := 3#32
  let v184 : BitVec 32 := Scalar.addi v183 c3_i32
  let c32_i32_76 : BitVec 32 := 32#32
  let v190 : BitVec 32 := Scalar.muli v184 c32_i32_76
  v190
def k0_mult15 (k0_t1 : Fin k0_t1_loop.trips) : BitVec 32 :=
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v4 : BitVec 32 := Scalar.muli arg3 c1_i32_1
  let v5 : BitVec 32 := Scalar.addi c0_i32_2 v4
  let c5_i32_73 : BitVec 32 := 5#32
  let v183 : BitVec 32 := Scalar.muli v5 c5_i32_73
  let c3_i32 : BitVec 32 := 3#32
  let v184 : BitVec 32 := Scalar.addi v183 c3_i32
  let c16_i32_89 : BitVec 32 := 16#32
  let v221 : BitVec 32 := Scalar.muli v184 c16_i32_89
  v221
def k0_mult16 (k0_t1 : Fin k0_t1_loop.trips) : BitVec 32 :=
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v4 : BitVec 32 := Scalar.muli arg3 c1_i32_1
  let v5 : BitVec 32 := Scalar.addi c0_i32_2 v4
  let c5_i32_73 : BitVec 32 := 5#32
  let v183 : BitVec 32 := Scalar.muli v5 c5_i32_73
  let c3_i32 : BitVec 32 := 3#32
  let v184 : BitVec 32 := Scalar.addi v183 c3_i32
  let c16_i32_96 : BitVec 32 := 16#32
  let v237 : BitVec 32 := Scalar.muli v184 c16_i32_96
  let c8_i32_97 : BitVec 32 := 8#32
  let v238 : BitVec 32 := Scalar.addi v237 c8_i32_97
  v238
def k0_mult17 (k0_t1 : Fin k0_t1_loop.trips) : BitVec 32 :=
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v4 : BitVec 32 := Scalar.muli arg3 c1_i32_1
  let v5 : BitVec 32 := Scalar.addi c0_i32_2 v4
  let c5_i32_99 : BitVec 32 := 5#32
  let v242 : BitVec 32 := Scalar.muli v5 c5_i32_99
  let c4_i32 : BitVec 32 := 4#32
  let v243 : BitVec 32 := Scalar.addi v242 c4_i32
  let c32_i32_100 : BitVec 32 := 32#32
  let v244 : BitVec 32 := Scalar.muli v243 c32_i32_100
  v244
def k0_mult18 (k0_t1 : Fin k0_t1_loop.trips) : BitVec 32 :=
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v4 : BitVec 32 := Scalar.muli arg3 c1_i32_1
  let v5 : BitVec 32 := Scalar.addi c0_i32_2 v4
  let c5_i32_99 : BitVec 32 := 5#32
  let v242 : BitVec 32 := Scalar.muli v5 c5_i32_99
  let c4_i32 : BitVec 32 := 4#32
  let v243 : BitVec 32 := Scalar.addi v242 c4_i32
  let c32_i32_102 : BitVec 32 := 32#32
  let v249 : BitVec 32 := Scalar.muli v243 c32_i32_102
  v249
def k0_mult19 (k0_t1 : Fin k0_t1_loop.trips) : BitVec 32 :=
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v4 : BitVec 32 := Scalar.muli arg3 c1_i32_1
  let v5 : BitVec 32 := Scalar.addi c0_i32_2 v4
  let c5_i32_99 : BitVec 32 := 5#32
  let v242 : BitVec 32 := Scalar.muli v5 c5_i32_99
  let c4_i32 : BitVec 32 := 4#32
  let v243 : BitVec 32 := Scalar.addi v242 c4_i32
  let c16_i32_115 : BitVec 32 := 16#32
  let v280 : BitVec 32 := Scalar.muli v243 c16_i32_115
  v280
def k0_mult20 (k0_t1 : Fin k0_t1_loop.trips) : BitVec 32 :=
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v4 : BitVec 32 := Scalar.muli arg3 c1_i32_1
  let v5 : BitVec 32 := Scalar.addi c0_i32_2 v4
  let c5_i32_99 : BitVec 32 := 5#32
  let v242 : BitVec 32 := Scalar.muli v5 c5_i32_99
  let c4_i32 : BitVec 32 := 4#32
  let v243 : BitVec 32 := Scalar.addi v242 c4_i32
  let c16_i32_122 : BitVec 32 := 16#32
  let v296 : BitVec 32 := Scalar.muli v243 c16_i32_122
  let c8_i32_123 : BitVec 32 := 8#32
  let v297 : BitVec 32 := Scalar.addi v296 c8_i32_123
  v297
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12000x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RelayoutReference.lean ====
abbrev S900000x256 : Shape := ⟨2, ![900000, 256]⟩
abbrev S900000x64 : Shape := ⟨2, ![900000, 64]⟩
abbrev S_ : Shape := ⟨0, ![]⟩
abbrev S28125x8x2x2x64 : Shape := ⟨5, ![28125, 8, 2, 2, 64]⟩
abbrev S28125x2x8x2x64 : Shape := ⟨5, ![28125, 2, 8, 2, 64]⟩

abbrev nBuf : Space → Nat
  | .hbm => 22
  | .vmem => 0
  | .smem => 0
  | _ => 0

abbrev bufTy : (tb : Table) → Fin (tcTables nBuf tb) → BufTy
  | .hbm, ⟨0, _⟩ => ⟨S900000x256, .fp8e4m3⟩
  | .hbm, ⟨1, _⟩ => ⟨S900000x256, .i8⟩
  | .hbm, ⟨2, _⟩ => ⟨S900000x256, .i32⟩
  | .hbm, ⟨3, _⟩ => ⟨S900000x64, .i32⟩
  | .hbm, ⟨4, _⟩ => ⟨S900000x64, .i32⟩
  | .hbm, ⟨5, _⟩ => ⟨S_, .i32⟩
  | .hbm, ⟨6, _⟩ => ⟨S900000x64, .i32⟩
  | .hbm, ⟨7, _⟩ => ⟨S900000x64, .i32⟩
  | .hbm, ⟨8, _⟩ => ⟨S900000x64, .i32⟩
  | .hbm, ⟨9, _⟩ => ⟨S900000x64, .i32⟩
  | .hbm, ⟨10, _⟩ => ⟨S_, .i32⟩
  | .hbm, ⟨11, _⟩ => ⟨S900000x64, .i32⟩
  | .hbm, ⟨12, _⟩ => ⟨S900000x64, .i32⟩
  | .hbm, ⟨13, _⟩ => ⟨S900000x64, .i32⟩
  | .hbm, ⟨14, _⟩ => ⟨S900000x64, .i32⟩
  | .hbm, ⟨15, _⟩ => ⟨S_, .i32⟩
  | .hbm, ⟨16, _⟩ => ⟨S900000x64, .i32⟩
  | .hbm, ⟨17, _⟩ => ⟨S900000x64, .i32⟩
  | .hbm, ⟨18, _⟩ => ⟨S900000x64, .i32⟩
  | .hbm, ⟨19, _⟩ => ⟨S28125x8x2x2x64, .i32⟩
  | .hbm, ⟨20, _⟩ => ⟨S28125x2x8x2x64, .i32⟩
  | .hbm, ⟨21, _⟩ => ⟨S900000x64, .i32⟩
  | _, _ => ⟨S900000x256, .fp8e4m3⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [BitOps F]
-- ==== Proof.Trip.lean ====
/- What one trip of the attention kernel's loop stores, as functions of the three blocks the grid point reads: the
   decoded code bytes of sixteen queries (`keys`), the sixteen pooled rows (`pooledRows`), the sixteen rows of
   attention weights (`attnRows`). -/
module

public import proofs.«01_k».proof.Proof.Gen.KernelIdeal.Loops
public import Idealize.ShloMosaic.Lib.Pipeline.FrameBody
public import Idealize.ShloMosaic.Lib.Pipeline.Value
public import Idealize.ShloMosaic.Lib.Pointwise.Index
public import Idealize.ShloMosaic.Lib.Ring

@[expose] public section

set_option maxRecDepth 16384

noncomputable section

namespace Cert.KernelIdeal.Attend

open Cert.KernelIdeal Cert.KernelIdeal.Gen
open Idealize.ShloMosaic Idealize.ShloMosaic.TcCoe Idealize.SL.Sem

variable {F : FTy → Type} [FloatOps F]

/-- The loop makes eight trips. -/
theorem trips_eq : k0_t1_loop.trips = 8 := by decide +kernel

/-! ## The decoded codes of sixteen queries -/

/-- Eight rows of words: sublane group `i` of query `g` of trip `k`. -/
def words (W : Vec F S4096x128 .i32) (k : Fin k0_t1_loop.trips) (g : Fin 16) (i : Fin 4) : IVec S8x128 32 :=
  View.ld W (Rect.unit (s := S4096x128) (k0_off1 k (BitVec.ofNat 32 g.val) (BitVec.ofNat 32 (8 * i.val))) S8x128.size (k0_off1_inb k g i))

/-- The even bytes of two words side by side. -/
def evens (a b : IVec S8x128 32) : IVec S8x128 32 :=
  ori (andi a (broadcast S8x128 16711935#32)) (shli (andi b (broadcast S8x128 16711935#32)) (broadcast S8x128 8#32))

/-- The odd bytes of two words side by side. -/
def odds (a b : IVec S8x128 32) : IVec S8x128 32 :=
  ori (andi (shrui a (broadcast S8x128 8#32)) (broadcast S8x128 16711935#32)) (andi b (broadcast S8x128 4278255360#32))

/-- The low halves of two words side by side. -/
def lows (a b : IVec S8x128 32) : IVec S8x128 32 :=
  ori (andi a (broadcast S8x128 65535#32)) (shli b (broadcast S8x128 16#32))

/-- The high halves of two words side by side. -/
def highs (a b : IVec S8x128 32) : IVec S8x128 32 :=
  ori (shrui a (broadcast S8x128 16#32)) (andi b (broadcast S8x128 4294901760#32))

/-- Byte `c` of each of four words, side by side in one word. -/
def gathered (v : Fin 4 → IVec S8x128 32) (c : Fin 4) : IVec S8x128 32 :=
  match c with
  | 0 => lows (evens (v 0) (v 1)) (evens (v 2) (v 3))
  | 1 => lows (odds (v 0) (v 1)) (odds (v 2) (v 3))
  | 2 => highs (evens (v 0) (v 1)) (evens (v 2) (v 3))
  | 3 => highs (odds (v 0) (v 1)) (odds (v 2) (v 3))

/-- Thirty-two rows of codes out of eight rows of words. -/
def decoded (w : IVec S8x128 32) : FVec F S32x128 .bf16 :=
  shapeCast S32x128 (extf .bf16 (bitcastToFloat .fp8e4m3 (bitcast S32x128 8 w bitcasts_S8x128_w32_S32x128_w8)) bitsLt_fp8e4m3_bf16) shapeCasts_S32x128_S32x128

/-- The codes of query `g` of trip `k` from byte `c` of its words. -/
def keyTile (W : Vec F S4096x128 .i32) (k : Fin k0_t1_loop.trips) (g : Fin 16) (c : Fin 4) : FVec F S32x128 .bf16 :=
  decoded (gathered (fun i => shapeCast S8x128 (words W k g i) shapeCasts_S8x128_S8x128) c)

theorem tile_inb (g : Fin 16) (c : Fin 4) : ∀ a, (![32 * g.val, 128 * c.val] : Fin 2 → Nat) a + S32x128.size a ≤ S512x512.size a := by
  revert g c; decide +kernel

/-- The store of a tile of codes. -/
def keyPiece (W : Vec F S4096x128 .i32) (k : Fin k0_t1_loop.trips) (g : Fin 16) (c : Fin 4) : View.Piece (Elt F) S512x512 .bf16 :=
  ⟨Rect.unit (s := S512x512) ![32 * g.val, 128 * c.val] S32x128.size (tile_inb g c), keyTile W k g c⟩

/-- The tiles in the order of the stores, last first. -/
def tileList : List (Fin 16 × Fin 4) :=
  [(15, 3), (15, 2), (15, 1), (15, 0), (14, 3), (14, 2), (14, 1), (14, 0), (13, 3), (13, 2), (13, 1), (13, 0), (12, 3), (12, 2), (12, 1), (12, 0),
   (11, 3), (11, 2), (11, 1), (11, 0), (10, 3), (10, 2), (10, 1), (10, 0), (9, 3), (9, 2), (9, 1), (9, 0), (8, 3), (8, 2), (8, 1), (8, 0),
   (7, 3), (7, 2), (7, 1), (7, 0), (6, 3), (6, 2), (6, 1), (6, 0), (5, 3), (5, 2), (5, 1), (5, 0), (4, 3), (4, 2), (4, 1), (4, 0),
   (3, 3), (3, 2), (3, 1), (3, 0), (2, 3), (2, 2), (2, 1), (2, 0), (1, 3), (1, 2), (1, 1), (1, 0), (0, 3), (0, 2), (0, 1), (0, 0)]

theorem mem_tileList : ∀ (g : Fin 16) (c : Fin 4), (g, c) ∈ tileList := by decide +kernel

/-- All the codes of trip `k`: row `32 g + r`, lane `128 c + l` from tile `(g, c)`. -/
def keys (W : Vec F S4096x128 .i32) (k : Fin k0_t1_loop.trips) : FVec F S512x512 .bf16 := fun y =>
  keyTile W k ⟨(y 0).val / 32, by have h : (y 0).val < 512 := (y 0).isLt; omega⟩ ⟨(y 1).val / 128, by have h : (y 1).val < 512 := (y 1).isLt; omega⟩
    (ix2 ⟨(y 0).val % 32, Nat.mod_lt _ (by decide)⟩ ⟨(y 1).val % 128, Nat.mod_lt _ (by decide)⟩)

set_option maxHeartbeats 0 in
/-- The trip's stores into the code scratch are these tiles. -/
theorem pieces_eq (arg2 : Memref sig .tc .vmem S4096x128 .i32) (X : BufTy.Contents (Elt F) arg2.view.ty) (k : Fin k0_t1_loop.trips) :
    trip_k0_t1.sl.HW_arg6_64 (F := F) arg2 X k = tileList.map fun gc => keyPiece (arg2.view.read (Elt F) X) k gc.1 gc.2 := by
  rfl

theorem keyPiece_apply (W : Vec F S4096x128 .i32) (k : Fin k0_t1_loop.trips) (g : Fin 16) (c : Fin 4)
    (x : (keyPiece W k g c).1.shape.Idx) :
    (keyPiece W k g c).2 x = keys W k ((keyPiece W k g c).1.emb x) := by
  have h0 : (x 0).val < 32 := (x 0).isLt
  have h1 : (x 1).val < 128 := (x 1).isLt
  have e0 : (((keyPiece W k g c).1.emb x) 0).val = 32 * g.val + (x 0).val := by
    show 32 * g.val + 1 * (x 0).val = _; omega
  have e1 : (((keyPiece W k g c).1.emb x) 1).val = 128 * c.val + (x 1).val := by
    show 128 * c.val + 1 * (x 1).val = _; omega
  show keyTile W k g c x = keyTile W k _ _ _
  congr 1
  · apply Fin.ext; show g.val = (((keyPiece W k g c).1.emb x) 0).val / 32; omega
  · apply Fin.ext; show c.val = (((keyPiece W k g c).1.emb x) 1).val / 128; omega
  · funext a
    match a with
    | 0 => apply Fin.ext; show (x 0).val = (((keyPiece W k g c).1.emb x) 0).val % 32; omega
    | 1 => apply Fin.ext; show (x 1).val = (((keyPiece W k g c).1.emb x) 1).val % 128; omega

theorem keys_cover (W : Vec F S4096x128 .i32) (k : Fin k0_t1_loop.trips) (y : S512x512.Idx) :
    ∃ p ∈ tileList.map fun gc => keyPiece W k gc.1 gc.2, y ∈ p.1.set := by
  have h0 : (y 0).val < 512 := (y 0).isLt
  have h1 : (y 1).val < 512 := (y 1).isLt
  refine ⟨_, List.mem_map.2 ⟨(⟨(y 0).val / 32, by omega⟩, ⟨(y 1).val / 128, by omega⟩), mem_tileList _ _, rfl⟩, ?_⟩
  refine (Rect.mem_set_unit (inb := tile_inb _ _)).2 fun a => ?_
  match a with
  | 0 => show 32 * ((y 0).val / 32) ≤ (y 0).val ∧ (y 0).val < 32 * ((y 0).val / 32) + 32; omega
  | 1 => show 128 * ((y 1).val / 128) ≤ (y 1).val ∧ (y 1).val < 128 * ((y 1).val / 128) + 128; omega

/-- What the trip loads back from the code scratch. -/
theorem keys_eq (arg2 : Memref sig .tc .vmem S4096x128 .i32) (arg6 : Memref sig .tc .vmem S512x512 .bf16) (X : BufTy.Contents (Elt F) arg2.view.ty) (k : Fin k0_t1_loop.trips) :
    trip_k0_t1.sl.v1467 (F := F) arg2 arg6 X k = keys (arg2.view.read (Elt F) X) k := by
  unfold trip_k0_t1.sl.v1467
  rw [pieces_eq, View.readCov_eq_canon_ld _ _ _ (keys_cover _ _), View.ld_unit_zero (by funext a; match a with | 0 => rfl | 1 => rfl)]
  funext y
  refine View.canon_apply_of_pieces _ _ (fun p hp x => ?_) y (keys_cover _ _ y)
  obtain ⟨gc, -, rfl⟩ := List.mem_map.1 hp
  exact keyPiece_apply _ _ _ _ x

/-! ## The two stores of a trip -/

/-- The scores before scaling: the sixteen queries' two half-lane rows against all the codes of the trip. -/
def dots (x : Vec F S128x256 .bf16) (W : Vec F S4096x128 .i32) (k : Fin k0_t1_loop.trips) : FVec F S32x512 .f32 :=
  k0_pay248 k0_pay1 (View.ld x (Rect.unit (s := S128x256) (k0_off2 k) S16x256.size (k0_off2_inb k))) (keys W k)

def scale0 (sc : Vec F S2x32x128 .f32) (k : Fin k0_t1_loop.trips) : FVec F S1x512 .f32 :=
  k0_pay249 (View.ld sc (Rect.unit (s := S2x32x128) (k0_off3 k) S1x4x128.size (k0_off3_inb k)))

def scale1 (sc : Vec F S2x32x128 .f32) (k : Fin k0_t1_loop.trips) : FVec F S1x512 .f32 :=
  k0_pay250 (View.ld sc (Rect.unit (s := S2x32x128) (k0_off4 k) S1x4x128.size (k0_off4_inb k)))

def scaled0 (x : Vec F S128x256 .bf16) (W : Vec F S4096x128 .i32) (sc : Vec F S2x32x128 .f32) (k : Fin k0_t1_loop.trips) : FVec F S16x512 .f32 :=
  k0_pay251 k0_pay1 (View.ld x (Rect.unit (s := S128x256) (k0_off2 k) S16x256.size (k0_off2_inb k))) (keys W k)
    (View.ld sc (Rect.unit (s := S2x32x128) (k0_off3 k) S1x4x128.size (k0_off3_inb k)))

/-- The sixteen pooled rows of trip `k`. -/
def pooledRows (x : Vec F S128x256 .bf16) (W : Vec F S4096x128 .i32) (sc : Vec F S2x32x128 .f32) (k : Fin k0_t1_loop.trips) : FVec F S16x256 .bf16 :=
  k0_pay265 k0_pay1 (k0_pay260 k0_pay2 (keys W k) (dots x W k) (scale0 sc k) (scale1 sc k) (scaled0 x W sc k))
    (k0_pay261 k0_pay2 (keys W k) (dots x W k) (scale0 sc k) (scale1 sc k) (scaled0 x W sc k))
    (k0_pay262 k0_pay2 (keys W k) (dots x W k) (scale0 sc k) (scale1 sc k) (scaled0 x W sc k))
    (k0_pay263 k0_pay2 (keys W k) (dots x W k) (scale0 sc k) (scale1 sc k) (scaled0 x W sc k))
    (k0_pay264 k0_pay2 (keys W k) (dots x W k) (scale0 sc k) (scale1 sc k) (scaled0 x W sc k)) 64#32

/-- The sixteen rows of attention weights of trip `k`. -/
def attnRows (x : Vec F S128x256 .bf16) (W : Vec F S4096x128 .i32) (sc : Vec F S2x32x128 .f32) (k : Fin k0_t1_loop.trips) : FVec F S16x128 .f32 :=
  k0_pay266 (iota .tc S16x128 32 [1] iota_S16x128_d1_w32) (k0_pay258 k0_pay2 (dots x W k) (scale1 sc k) (scaled0 x W sc k))
    (k0_pay259 k0_pay2 (dots x W k) (scale1 sc k) (scaled0 x W sc k))

def pooledPiece (x : Vec F S128x256 .bf16) (W : Vec F S4096x128 .i32) (sc : Vec F S2x32x128 .f32) (k : Fin k0_t1_loop.trips) : View.Piece (Elt F) S128x256 .bf16 :=
  ⟨Rect.unit (s := S128x256) (k0_off2 k) S16x256.size (k0_off2_inb k), pooledRows x W sc k⟩

def attnPiece (x : Vec F S128x256 .bf16) (W : Vec F S4096x128 .i32) (sc : Vec F S2x32x128 .f32) (k : Fin k0_t1_loop.trips) : View.Piece (Elt F) S128x128 .f32 :=
  ⟨Rect.unit (s := S128x128) (k0_off5 k) S16x128.size (k0_off5_inb k), attnRows x W sc k⟩

/-- What the trip stores into the pooled block. -/
theorem trip_pooled (𝒱 : Variants) (c : Dev nD) (bd : Option 𝒱.V) (i : grid0.Coords) (arg1 : Memref sig .tc .vmem S128x256 .bf16) (harg1 : arg1.IsWhole) (arg2 : Memref sig .tc .vmem S4096x128 .i32) (harg2 : arg2.IsWhole) (arg3 : Memref sig .tc .vmem S2x32x128 .f32) (harg3 : arg3.IsWhole) (arg4 : Memref sig .tc .vmem S128x256 .bf16) (harg4 : arg4.IsWhole) (arg5 : Memref sig .tc .vmem S64x128 .f32) (harg5 : arg5.IsWhole) (arg6 : Memref sig .tc .vmem S512x512 .bf16) (harg6 : arg6.IsWhole) (arg7 : Memref sig .tc .vmem S128x128 .f32) (harg7 : arg7.IsWhole) (v0 : IVec S16x128 32) (X1 : BufTy.Contents (Elt F) arg1.view.ty) (X2 : BufTy.Contents (Elt F) arg2.view.ty) (X3 : BufTy.Contents (Elt F) arg3.view.ty) (k : Fin k0_t1_loop.trips) (f4 : BufTy.Contents (Elt F) arg4.view.ty) (f6 : BufTy.Contents (Elt F) arg6.view.ty) (f7 : BufTy.Contents (Elt F) arg7.view.ty) :
    (tripL_k0_t1 (F := F) 𝒱 c bd i arg1 harg1 arg2 harg2 arg3 harg3 arg4 harg4 arg5 harg5 arg6 harg6 arg7 harg7 v0 X1 X2 X3 k f4 f6 f7).1
      = [pooledPiece (arg1.view.read (Elt F) X1) (arg2.view.read (Elt F) X2) (arg3.view.read (Elt F) X3) k] := by
  unfold tripL_k0_t1 trip_k0_t1; dsimp only
  unfold trip_k0_t1.sl.r_63 trip_k0_t1.sl.r_64 trip_k0_t1.sl.r_65 trip_k0_t1.sl.r_66 trip_k0_t1.sl.r_67 trip_k0_t1.sl.r_57 trip_k0_t1.sl.r_58 trip_k0_t1.sl.r_59 trip_k0_t1.sl.r_60
  simp only [keys_eq]
  rfl

/-- What the trip stores into the scratch of attention rows. -/
theorem trip_attn (𝒱 : Variants) (c : Dev nD) (bd : Option 𝒱.V) (i : grid0.Coords) (arg1 : Memref sig .tc .vmem S128x256 .bf16) (harg1 : arg1.IsWhole) (arg2 : Memref sig .tc .vmem S4096x128 .i32) (harg2 : arg2.IsWhole) (arg3 : Memref sig .tc .vmem S2x32x128 .f32) (harg3 : arg3.IsWhole) (arg4 : Memref sig .tc .vmem S128x256 .bf16) (harg4 : arg4.IsWhole) (arg5 : Memref sig .tc .vmem S64x128 .f32) (harg5 : arg5.IsWhole) (arg6 : Memref sig .tc .vmem S512x512 .bf16) (harg6 : arg6.IsWhole) (arg7 : Memref sig .tc .vmem S128x128 .f32) (harg7 : arg7.IsWhole) (X1 : BufTy.Contents (Elt F) arg1.view.ty) (X2 : BufTy.Contents (Elt F) arg2.view.ty) (X3 : BufTy.Contents (Elt F) arg3.view.ty) (k : Fin k0_t1_loop.trips) (f4 : BufTy.Contents (Elt F) arg4.view.ty) (f6 : BufTy.Contents (Elt F) arg6.view.ty) (f7 : BufTy.Contents (Elt F) arg7.view.ty) :
    (tripL_k0_t1 (F := F) 𝒱 c bd i arg1 harg1 arg2 harg2 arg3 harg3 arg4 harg4 arg5 harg5 arg6 harg6 arg7 harg7 (iota .tc S16x128 32 [1] iota_S16x128_d1_w32) X1 X2 X3 k f4 f6 f7).2.2
      = [attnPiece (arg1.view.read (Elt F) X1) (arg2.view.read (Elt F) X2) (arg3.view.read (Elt F) X3) k] := by
  unfold tripL_k0_t1 trip_k0_t1; dsimp only
  unfold trip_k0_t1.sl.r_68 trip_k0_t1.sl.r_61 trip_k0_t1.sl.r_62 trip_k0_t1.sl.r_57 trip_k0_t1.sl.r_59 trip_k0_t1.sl.r_60
  simp only [keys_eq]
  rfl

end Cert.KernelIdeal.Attend

end
-- ==== Proof.Body.lean ====
/- The attention kernel's body at a grid point, and the run of the program: the body stores into the pooled block and
   the attention block functions of the three blocks it reads (`pooledBlock`, `attnBlock`), so every execution ends with
   the two result arrays at those functions block by block, and the argument arrays unchanged. -/
module

public import proofs.«01_k».proof.Proof.Gen.KernelIdeal.Frame
public import proofs.«01_k».proof.Proof.Trip
public import Idealize.ShloMosaic.Lib.Claim
public import Idealize.ShloMosaic.Lib.Tactic

@[expose] public section

set_option maxRecDepth 16384

noncomputable section

namespace Cert.KernelIdeal.Attend

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the eight trips leave -/

/-- The trip that treats query `q` of a block of 128. -/
def trip (q : Fin 128) : Fin k0_t1_loop.trips := ⟨q.val / 16, by rw [trips_eq]; omega⟩

/-- The pooled block: row `q` from trip `q / 16`. -/
def pooledBlock (x : Vec F S128x256 .bf16) (W : Vec F S4096x128 .i32) (sc : Vec F S2x32x128 .f32) : Vec F S128x256 .bf16 := fun y =>
  pooledRows x W sc (trip (y 0)) (ix2 ⟨(y 0).val % 16, Nat.mod_lt _ (by decide)⟩ (y 1))

/-- The attention rows of the block: row `q` from trip `q / 16`. -/
def attnScratch (x : Vec F S128x256 .bf16) (W : Vec F S4096x128 .i32) (sc : Vec F S2x32x128 .f32) : Vec F S128x128 .f32 := fun y =>
  attnRows x W sc (trip (y 0)) (ix2 ⟨(y 0).val % 16, Nat.mod_lt _ (by decide)⟩ (y 1))

/-- The attention block: those rows transposed, the 64 lanes in use. -/
def attnBlock (x : Vec F S128x256 .bf16) (W : Vec F S4096x128 .i32) (sc : Vec F S2x32x128 .f32) : Vec F S64x128 .f32 :=
  k0_pay3 (attnScratch x W sc)

theorem off2_eq : ∀ k : Fin k0_t1_loop.trips, k0_off2 k = ![16 * k.val, 0] := by decide +kernel
theorem off5_eq : ∀ k : Fin k0_t1_loop.trips, k0_off5 k = ![16 * k.val, 0] := by decide +kernel

theorem trip_val_lt (k : Fin k0_t1_loop.trips) : k.val < 8 := trips_eq ▸ k.isLt

theorem pooledPiece_apply (x : Vec F S128x256 .bf16) (W : Vec F S4096x128 .i32) (sc : Vec F S2x32x128 .f32) (k : Fin k0_t1_loop.trips)
    (z : (pooledPiece x W sc k).1.shape.Idx) : (pooledPiece x W sc k).2 z = pooledBlock x W sc ((pooledPiece x W sc k).1.emb z) := by
  have h0 : (z 0).val < 16 := (z 0).isLt
  have e0 : (((pooledPiece x W sc k).1.emb z) 0).val = 16 * k.val + (z 0).val := by
    show k0_off2 k 0 + 1 * (z 0).val = _; rw [off2_eq]; show 16 * k.val + 1 * (z 0).val = _; omega
  have e1 : (((pooledPiece x W sc k).1.emb z) 1).val = (z 1).val := by
    show k0_off2 k 1 + 1 * (z 1).val = _; rw [off2_eq]; show 0 + 1 * (z 1).val = _; omega
  show pooledRows x W sc k z = pooledRows x W sc _ _
  congr 1
  · apply Fin.ext; show k.val = (((pooledPiece x W sc k).1.emb z) 0).val / 16; omega
  · funext a
    match a with
    | 0 => apply Fin.ext; show (z 0).val = (((pooledPiece x W sc k).1.emb z) 0).val % 16; omega
    | 1 => apply Fin.ext; exact e1.symm

theorem attnPiece_apply (x : Vec F S128x256 .bf16) (W : Vec F S4096x128 .i32) (sc : Vec F S2x32x128 .f32) (k : Fin k0_t1_loop.trips)
    (z : (attnPiece x W sc k).1.shape.Idx) : (attnPiece x W sc k).2 z = attnScratch x W sc ((attnPiece x W sc k).1.emb z) := by
  have h0 : (z 0).val < 16 := (z 0).isLt
  have e0 : (((attnPiece x W sc k).1.emb z) 0).val = 16 * k.val + (z 0).val := by
    show k0_off5 k 0 + 1 * (z 0).val = _; rw [off5_eq]; show 16 * k.val + 1 * (z 0).val = _; omega
  have e1 : (((attnPiece x W sc k).1.emb z) 1).val = (z 1).val := by
    show k0_off5 k 1 + 1 * (z 1).val = _; rw [off5_eq]; show 0 + 1 * (z 1).val = _; omega
  show attnRows x W sc k z = attnRows x W sc _ _
  congr 1
  · apply Fin.ext; show k.val = (((attnPiece x W sc k).1.emb z) 0).val / 16; omega
  · funext a
    match a with
    | 0 => apply Fin.ext; show (z 0).val = (((attnPiece x W sc k).1.emb z) 0).val % 16; omega
    | 1 => apply Fin.ext; exact e1.symm

theorem mem_pooledPiece (x : Vec F S128x256 .bf16) (W : Vec F S4096x128 .i32) (sc : Vec F S2x32x128 .f32) (y : S128x256.Idx) :
    y ∈ (pooledPiece x W sc (trip (y 0))).1.set := by
  have h0 : (y 0).val < 128 := (y 0).isLt
  have h1 : (y 1).val < 256 := (y 1).isLt
  refine (Rect.mem_set_unit (inb := k0_off2_inb _)).2 fun a => ?_
  rw [off2_eq]
  match a with
  | 0 => show 16 * ((y 0).val / 16) ≤ (y 0).val ∧ (y 0).val < 16 * ((y 0).val / 16) + 16; omega
  | 1 => show 0 ≤ (y 1).val ∧ (y 1).val < 0 + 256; omega

theorem mem_attnPiece (x : Vec F S128x256 .bf16) (W : Vec F S4096x128 .i32) (sc : Vec F S2x32x128 .f32) (y : S128x128.Idx) :
    y ∈ (attnPiece x W sc (trip (y 0))).1.set := by
  have h0 : (y 0).val < 128 := (y 0).isLt
  have h1 : (y 1).val < 128 := (y 1).isLt
  refine (Rect.mem_set_unit (inb := k0_off5_inb _)).2 fun a => ?_
  rw [off5_eq]
  match a with
  | 0 => show 16 * ((y 0).val / 16) ≤ (y 0).val ∧ (y 0).val < 16 * ((y 0).val / 16) + 16; omega
  | 1 => show 0 ≤ (y 1).val ∧ (y 1).val < 0 + 128; omega

section pieces

variable (𝒱 : Variants) (c : Dev nD) (bd : Option 𝒱.V) (i : grid0.Coords) (arg1 : Memref sig .tc .vmem S128x256 .bf16) (harg1 : arg1.IsWhole) (arg2 : Memref sig .tc .vmem S4096x128 .i32) (harg2 : arg2.IsWhole) (arg3 : Memref sig .tc .vmem S2x32x128 .f32) (harg3 : arg3.IsWhole) (arg4 : Memref sig .tc .vmem S128x256 .bf16) (harg4 : arg4.IsWhole) (arg5 : Memref sig .tc .vmem S64x128 .f32) (harg5 : arg5.IsWhole) (arg6 : Memref sig .tc .vmem S512x512 .bf16) (harg6 : arg6.IsWhole) (arg7 : Memref sig .tc .vmem S128x128 .f32) (harg7 : arg7.IsWhole)
  (X1 : BufTy.Contents (Elt F) arg1.view.ty) (X2 : BufTy.Contents (Elt F) arg2.view.ty) (X3 : BufTy.Contents (Elt F) arg3.view.ty) (f4 : BufTy.Contents (Elt F) arg4.view.ty) (f6 : BufTy.Contents (Elt F) arg6.view.ty) (f7 : BufTy.Contents (Elt F) arg7.view.ty)

/-- The pieces after `n` trips are those of the trips before `n`. -/
theorem pieces_are (n : Nat) (hn : n ≤ k0_t1_loop.trips) :
    (∀ p ∈ (pb_k0_t1 (F := F) 𝒱 c bd i arg1 harg1 arg2 harg2 arg3 harg3 arg4 harg4 arg5 harg5 arg6 harg6 arg7 harg7 (iota .tc S16x128 32 [1] iota_S16x128_d1_w32) X1 X2 X3 f4 f6 f7 n).1, ∃ k, p = pooledPiece (arg1.view.read (Elt F) X1) (arg2.view.read (Elt F) X2) (arg3.view.read (Elt F) X3) k)
    ∧ (∀ k : Fin k0_t1_loop.trips, k.val < n → pooledPiece (arg1.view.read (Elt F) X1) (arg2.view.read (Elt F) X2) (arg3.view.read (Elt F) X3) k ∈ (pb_k0_t1 (F := F) 𝒱 c bd i arg1 harg1 arg2 harg2 arg3 harg3 arg4 harg4 arg5 harg5 arg6 harg6 arg7 harg7 (iota .tc S16x128 32 [1] iota_S16x128_d1_w32) X1 X2 X3 f4 f6 f7 n).1)
    ∧ (∀ p ∈ (pb_k0_t1 (F := F) 𝒱 c bd i arg1 harg1 arg2 harg2 arg3 harg3 arg4 harg4 arg5 harg5 arg6 harg6 arg7 harg7 (iota .tc S16x128 32 [1] iota_S16x128_d1_w32) X1 X2 X3 f4 f6 f7 n).2.2, ∃ k, p = attnPiece (arg1.view.read (Elt F) X1) (arg2.view.read (Elt F) X2) (arg3.view.read (Elt F) X3) k)
    ∧ (∀ k : Fin k0_t1_loop.trips, k.val < n → attnPiece (arg1.view.read (Elt F) X1) (arg2.view.read (Elt F) X2) (arg3.view.read (Elt F) X3) k ∈ (pb_k0_t1 (F := F) 𝒱 c bd i arg1 harg1 arg2 harg2 arg3 harg3 arg4 harg4 arg5 harg5 arg6 harg6 arg7 harg7 (iota .tc S16x128 32 [1] iota_S16x128_d1_w32) X1 X2 X3 f4 f6 f7 n).2.2) := by
  induction n with
  | zero => exact ⟨fun p hp => absurd hp List.not_mem_nil, fun k hk => absurd hk (Nat.not_lt_zero _), fun p hp => absurd hp List.not_mem_nil, fun k hk => absurd hk (Nat.not_lt_zero _)⟩
  | succ n ih =>
    obtain ⟨h1, h2, h3, h4⟩ := ih (by omega)
    have e := pb_k0_t1_succ (F := F) 𝒱 c bd i arg1 harg1 arg2 harg2 arg3 harg3 arg4 harg4 arg5 harg5 arg6 harg6 arg7 harg7 (iota .tc S16x128 32 [1] iota_S16x128_d1_w32) X1 X2 X3 f4 f6 f7 ⟨n, by omega⟩
    rw [show n + 1 = (⟨n, by omega⟩ : Fin k0_t1_loop.trips).val + 1 from rfl, e, trip_pooled, trip_attn]
    refine ⟨fun p hp => ?_, fun k hk => ?_, fun p hp => ?_, fun k hk => ?_⟩
    · rcases List.mem_append.1 hp with hp | hp
      · exact ⟨_, List.mem_singleton.1 hp⟩
      · exact h1 p hp
    · by_cases hkn : k.val = n
      · exact List.mem_append_left _ (List.mem_singleton.2 (by congr 1; exact Fin.ext hkn))
      · exact List.mem_append_right _ (h2 k (by have : k.val < n + 1 := hk; omega))
    · rcases List.mem_append.1 hp with hp | hp
      · exact ⟨_, List.mem_singleton.1 hp⟩
      · exact h3 p hp
    · by_cases hkn : k.val = n
      · exact List.mem_append_left _ (List.mem_singleton.2 (by congr 1; exact Fin.ext hkn))
      · exact List.mem_append_right _ (h4 k (by have : k.val < n + 1 := hk; omega))

/-- The pooled block after the loop, whatever it held before. -/
theorem read_pooled : arg4.view.read (Elt F) (arg4.view.writes (Elt F) f4 (pb_k0_t1 (F := F) 𝒱 c bd i arg1 harg1 arg2 harg2 arg3 harg3 arg4 harg4 arg5 harg5 arg6 harg6 arg7 harg7 (iota .tc S16x128 32 [1] iota_S16x128_d1_w32) X1 X2 X3 f4 f6 f7 k0_t1_loop.trips).1) = pooledBlock (arg1.view.read (Elt F) X1) (arg2.view.read (Elt F) X2) (arg3.view.read (Elt F) X3) := by
  obtain ⟨h1, h2, -, -⟩ := pieces_are (F := F) 𝒱 c bd i arg1 harg1 arg2 harg2 arg3 harg3 arg4 harg4 arg5 harg5 arg6 harg6 arg7 harg7 X1 X2 X3 f4 f6 f7 k0_t1_loop.trips le_rfl
  funext y
  refine View.read_writes_apply_of_pieces _ _ _ _ (fun p hp z => ?_) y ⟨_, h2 (trip (y 0)) (trip (y 0)).isLt, mem_pooledPiece _ _ _ y⟩
  obtain ⟨k, rfl⟩ := h1 p hp
  exact pooledPiece_apply _ _ _ k z

/-- The scratch of attention rows after the loop, whatever it held before. -/
theorem read_attn : arg7.view.read (Elt F) (arg7.view.writes (Elt F) f7 (pb_k0_t1 (F := F) 𝒱 c bd i arg1 harg1 arg2 harg2 arg3 harg3 arg4 harg4 arg5 harg5 arg6 harg6 arg7 harg7 (iota .tc S16x128 32 [1] iota_S16x128_d1_w32) X1 X2 X3 f4 f6 f7 k0_t1_loop.trips).2.2) = attnScratch (arg1.view.read (Elt F) X1) (arg2.view.read (Elt F) X2) (arg3.view.read (Elt F) X3) := by
  obtain ⟨-, -, h3, h4⟩ := pieces_are (F := F) 𝒱 c bd i arg1 harg1 arg2 harg2 arg3 harg3 arg4 harg4 arg5 harg5 arg6 harg6 arg7 harg7 X1 X2 X3 f4 f6 f7 k0_t1_loop.trips le_rfl
  funext y
  refine View.read_writes_apply_of_pieces _ _ _ _ (fun p hp z => ?_) y ⟨_, h4 (trip (y 0)) (trip (y 0)).isLt, mem_attnPiece _ _ _ y⟩
  obtain ⟨k, rfl⟩ := h3 p hp
  exact attnPiece_apply _ _ _ k z

end pieces

theorem cover5 (p0 : Vec F S64x128 .f32) (y : S64x128.Idx) :
    ∃ pc ∈ ([⟨Rect.unit (s := S64x128) ![0, 0] S64x128.size inb_S64x128_S64x128_0_0, p0⟩] : List (View.Piece (Elt F) S64x128 .f32)), y ∈ pc.1.set :=
  View.cover_of_tiled [⟨Rect.unit (s := S64x128) ![0, 0] S64x128.size inb_S64x128_S64x128_0_0, p0⟩] S64x128.size (by rfl) y

/-! ## The body's triple -/

set_option maxHeartbeats 1000000 in
/-- The body on whole memrefs: the inputs as they were, the pooled block at `pooledBlock`, the attention block at
    `attnBlock`, the two scratch buffers at whatever the loop left. -/
theorem sound_kernel (c : Dev nD) (E : Set ℕ) (i : grid0.Coords) (arg1 : Memref sig .tc .vmem S128x256 .bf16) (harg1 : arg1.IsWhole) (arg2 : Memref sig .tc .vmem S4096x128 .i32) (harg2 : arg2.IsWhole) (arg3 : Memref sig .tc .vmem S2x32x128 .f32) (harg3 : arg3.IsWhole) (arg4 : Memref sig .tc .vmem S128x256 .bf16) (harg4 : arg4.IsWhole) (arg5 : Memref sig .tc .vmem S64x128 .f32) (harg5 : arg5.IsWhole) (arg6 : Memref sig .tc .vmem S512x512 .bf16) (harg6 : arg6.IsWhole) (arg7 : Memref sig .tc .vmem S128x128 .f32) (harg7 : arg7.IsWhole)
    (x : Vec F S128x256 .bf16) (W : Vec F S4096x128 .i32) (sc : Vec F S2x32x128 .f32) (K : PUnit → sProp 𝕄) :
    iprop(owns (c : Thread nD τ) arg1 fullShare x ∗ owns (c : Thread nD τ) arg2 fullShare W ∗ owns (c : Thread nD τ) arg3 fullShare sc
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare W ∗ owns (c : Thread nD τ) arg3 fullShare sc
            ∗ owns (c : Thread nD τ) arg4 fullShare (pooledBlock x W sc) ∗ owns (c : Thread nD τ) arg5 fullShare (attnBlock x W sc)
            ∗ (∃ d, owns (c : Thread nD τ) arg6 fullShare d) ∗ (∃ d, owns (c : Thread nD τ) arg7 fullShare d)) -∗ K ⟨⟩))
      ⊢ wp frame (wpE (defs₀ (F := F)) Variants.none c none) E (cc0_attend i arg1 harg1 arg2 harg2 arg3 harg3 arg4 harg4 arg5 harg5 arg6 harg6 arg7 harg7) K := by
  simp only [cc0_attend_eq_skeleton]; unfold cc0_attend_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact read_pooled Variants.none c none i arg1 harg1 arg2 harg2 arg3 harg3 arg4 harg4 arg5 harg5 arg6 harg6 arg7 harg7 f1 f2 f3 f4 f6 f7
  isplitl [H5]
  · iexists _; isplitr
    swap; · iexact H5
    ipureintro
    rw [View.read_writes_eq_canon _ _ _ (cover5 _)]
    unfold sound_kernel.sl.v31
    rw [View.readAt_eq_ld]
    refine (View.canon_unit_zero (by funext a; match a with | 0 => rfl | 1 => rfl) _ _).trans ?_
    unfold attnBlock
    rw [← read_attn Variants.none c none i arg1 harg1 arg2 harg2 arg3 harg3 arg4 harg4 arg5 harg5 arg6 harg6 arg7 harg7 f1 f2 f3 f4 f6 f7]
    rw [View.ld_unit_zero (by funext a; match a with | 0 => rfl | 1 => rfl)]
    rfl
  isplitl [H6]
  · iexists _; iexists _; isplitr
    swap; · iexact H6
    ipureintro; rfl
  iexists _; iexists _; isplitr
  swap; · iexact H7
  ipureintro; rfl

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => pooledBlock (iblk m c 0 t) (iblk m c 1 t) (iblk m c 2 t)
    | ⟨4, _⟩ => attnBlock (iblk m c 0 t) (iblk m c 1 t) (iblk m c 2 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = pooledBlock (iblk m c 0 t) (iblk m c 1 t) (iblk m c 2 t) := by dsimp only [dats]
theorem after0_4 (c : Dev nD) (t : Fin cfg0.N) : (dats m 0 c).after 4 t = attnBlock (iblk m c 0 t) (iblk m c 1 t) (iblk m c 2 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks (`before0_W`), so `sound_kernel` applies; the two scratch buffers are
    taken out of the invariant and given back; the core's `owes` passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl]
  unfold Pipeline.ΦA; rw [scopedRest0_eq]
  iintro ⟨⟨⟨⟨%g6, G6⟩, ⟨%g7, G7⟩⟩, Hr⟩, Ho, ⟨%d0, H0⟩, ⟨%d1, H1⟩, ⟨%d2, H2⟩, ⟨%d3, H3⟩, ⟨%d4, H4⟩⟩
  iapply (sound_kernel c Set.univ _ _ _ _ _ _ _ _ _ _ _ (Memref.whole cc0_scratch0) _ (Memref.whole cc0_scratch1) _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [G6]; · iexists g6; iapply (Entails.of_eq (owns_whole (c : Thread nD τ) cc0_scratch0 fullShare g6).symm); iexact G6
  isplitl [G7]; · iexists g7; iapply (Entails.of_eq (owns_whole (c : Thread nD τ) cc0_scratch1 fullShare g7).symm); iexact G7
  iintro ⟨H0, H1, H2, H3, H4, ⟨%e6, G6⟩, ⟨%e7, G7⟩⟩
  isplitl [G6 G7 Hr]
  · isplitl [G6 G7]
    · isplitl [G6]
      · iexists e6; iapply (Entails.of_eq (owns_whole (c : Thread nD τ) cc0_scratch0 fullShare e6)); iexact G6
      iexists e7; iapply (Entails.of_eq (owns_whole (c : Thread nD τ) cc0_scratch1 fullShare e7)); iexact G7
    iexact Hr
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the host lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F`  -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Attend

end
-- ==== Proof.KernelTrip.lean ====
/- What one trip of the attention kernel's loop stores, as functions of the three blocks the grid point reads: the
   decoded code bytes of sixteen queries (`keys`), the sixteen pooled rows (`pooledRows`), the sixteen rows of
   attention weights (`attnRows`). -/
module

public import proofs.«01_k».proof.Proof.Gen.Kernel.Loops
public import Idealize.ShloMosaic.Lib.Pipeline.FrameBody
public import Idealize.ShloMosaic.Lib.Pipeline.Value
public import Idealize.ShloMosaic.Lib.Pointwise.Index
public import Idealize.ShloMosaic.Lib.Ring

@[expose] public section

set_option maxRecDepth 16384

noncomputable section

namespace Cert.Kernel.Attend

open Cert.Kernel Cert.Kernel.Gen
open Idealize.ShloMosaic Idealize.ShloMosaic.TcCoe Idealize.SL.Sem

variable {F : FTy → Type} [FloatOps F]

/-- The loop makes eight trips. -/
theorem trips_eq : k0_t1_loop.trips = 8 := by decide +kernel

/-! ## The decoded codes of sixteen queries -/

/-- Eight rows of words: sublane group `i` of query `g` of trip `k`. -/
def words (W : Vec F S4096x128 .i32) (k : Fin k0_t1_loop.trips) (g : Fin 16) (i : Fin 4) : IVec S8x128 32 :=
  View.ld W (Rect.unit (s := S4096x128) (k0_off1 k (BitVec.ofNat 32 g.val) (BitVec.ofNat 32 (8 * i.val))) S8x128.size (k0_off1_inb k g i))

/-- The even bytes of two words side by side. -/
def evens (a b : IVec S8x128 32) : IVec S8x128 32 :=
  ori (andi a (broadcast S8x128 16711935#32)) (shli (andi b (broadcast S8x128 16711935#32)) (broadcast S8x128 8#32))

/-- The odd bytes of two words side by side. -/
def odds (a b : IVec S8x128 32) : IVec S8x128 32 :=
  ori (andi (shrui a (broadcast S8x128 8#32)) (broadcast S8x128 16711935#32)) (andi b (broadcast S8x128 4278255360#32))

/-- The low halves of two words side by side. -/
def lows (a b : IVec S8x128 32) : IVec S8x128 32 :=
  ori (andi a (broadcast S8x128 65535#32)) (shli b (broadcast S8x128 16#32))

/-- The high halves of two words side by side. -/
def highs (a b : IVec S8x128 32) : IVec S8x128 32 :=
  ori (shrui a (broadcast S8x128 16#32)) (andi b (broadcast S8x128 4294901760#32))

/-- Byte `c` of each of four words, side by side in one word. -/
def gathered (v : Fin 4 → IVec S8x128 32) (c : Fin 4) : IVec S8x128 32 :=
  match c with
  | 0 => lows (evens (v 0) (v 1)) (evens (v 2) (v 3))
  | 1 => lows (odds (v 0) (v 1)) (odds (v 2) (v 3))
  | 2 => highs (evens (v 0) (v 1)) (evens (v 2) (v 3))
  | 3 => highs (odds (v 0) (v 1)) (odds (v 2) (v 3))

/-- Thirty-two rows of codes out of eight rows of words. -/
def decoded (w : IVec S8x128 32) : FVec F S32x128 .bf16 :=
  shapeCast S32x128 (extf .bf16 (bitcastToFloat .fp8e4m3 (bitcast S32x128 8 w bitcasts_S8x128_w32_S32x128_w8)) bitsLt_fp8e4m3_bf16) shapeCasts_S32x128_S32x128

/-- The codes of query `g` of trip `k` from byte `c` of its words. -/
def keyTile (W : Vec F S4096x128 .i32) (k : Fin k0_t1_loop.trips) (g : Fin 16) (c : Fin 4) : FVec F S32x128 .bf16 :=
  decoded (gathered (fun i => shapeCast S8x128 (words W k g i) shapeCasts_S8x128_S8x128) c)

theorem tile_inb (g : Fin 16) (c : Fin 4) : ∀ a, (![32 * g.val, 128 * c.val] : Fin 2 → Nat) a + S32x128.size a ≤ S512x512.size a := by
  revert g c; decide +kernel

/-- The store of a tile of codes. -/
def keyPiece (W : Vec F S4096x128 .i32) (k : Fin k0_t1_loop.trips) (g : Fin 16) (c : Fin 4) : View.Piece (Elt F) S512x512 .bf16 :=
  ⟨Rect.unit (s := S512x512) ![32 * g.val, 128 * c.val] S32x128.size (tile_inb g c), keyTile W k g c⟩

/-- The tiles in the order of the stores, last first. -/
def tileList : List (Fin 16 × Fin 4) :=
  [(15, 3), (15, 2), (15, 1), (15, 0), (14, 3), (14, 2), (14, 1), (14, 0), (13, 3), (13, 2), (13, 1), (13, 0), (12, 3), (12, 2), (12, 1), (12, 0),
   (11, 3), (11, 2), (11, 1), (11, 0), (10, 3), (10, 2), (10, 1), (10, 0), (9, 3), (9, 2), (9, 1), (9, 0), (8, 3), (8, 2), (8, 1), (8, 0),
   (7, 3), (7, 2), (7, 1), (7, 0), (6, 3), (6, 2), (6, 1), (6, 0), (5, 3), (5, 2), (5, 1), (5, 0), (4, 3), (4, 2), (4, 1), (4, 0),
   (3, 3), (3, 2), (3, 1), (3, 0), (2, 3), (2, 2), (2, 1), (2, 0), (1, 3), (1, 2), (1, 1), (1, 0), (0, 3), (0, 2), (0, 1), (0, 0)]

theorem mem_tileList : ∀ (g : Fin 16) (c : Fin 4), (g, c) ∈ tileList := by decide +kernel

/-- All the codes of trip `k`: row `32 g + r`, lane `128 c + l` from tile `(g, c)`. -/
def keys (W : Vec F S4096x128 .i32) (k : Fin k0_t1_loop.trips) : FVec F S512x512 .bf16 := fun y =>
  keyTile W k ⟨(y 0).val / 32, by have h : (y 0).val < 512 := (y 0).isLt; omega⟩ ⟨(y 1).val / 128, by have h : (y 1).val < 512 := (y 1).isLt; omega⟩
    (ix2 ⟨(y 0).val % 32, Nat.mod_lt _ (by decide)⟩ ⟨(y 1).val % 128, Nat.mod_lt _ (by decide)⟩)

set_option maxHeartbeats 0 in
/-- The trip's stores into the code scratch are these tiles. -/
theorem pieces_eq (arg2 : Memref sig .tc .vmem S4096x128 .i32) (X : BufTy.Contents (Elt F) arg2.view.ty) (k : Fin k0_t1_loop.trips) :
    trip_k0_t1.sl.HW_arg6_64 (F := F) arg2 X k = tileList.map fun gc => keyPiece (arg2.view.read (Elt F) X) k gc.1 gc.2 := by
  rfl

theorem keyPiece_apply (W : Vec F S4096x128 .i32) (k : Fin k0_t1_loop.trips) (g : Fin 16) (c : Fin 4)
    (x : (keyPiece W k g c).1.shape.Idx) :
    (keyPiece W k g c).2 x = keys W k ((keyPiece W k g c).1.emb x) := by
  have h0 : (x 0).val < 32 := (x 0).isLt
  have h1 : (x 1).val < 128 := (x 1).isLt
  have e0 : (((keyPiece W k g c).1.emb x) 0).val = 32 * g.val + (x 0).val := by
    show 32 * g.val + 1 * (x 0).val = _; omega
  have e1 : (((keyPiece W k g c).1.emb x) 1).val = 128 * c.val + (x 1).val := by
    show 128 * c.val + 1 * (x 1).val = _; omega
  show keyTile W k g c x = keyTile W k _ _ _
  congr 1
  · apply Fin.ext; show g.val = (((keyPiece W k g c).1.emb x) 0).val / 32; omega
  · apply Fin.ext; show c.val = (((keyPiece W k g c).1.emb x) 1).val / 128; omega
  · funext a
    match a with
    | 0 => apply Fin.ext; show (x 0).val = (((keyPiece W k g c).1.emb x) 0).val % 32; omega
    | 1 => apply Fin.ext; show (x 1).val = (((keyPiece W k g c).1.emb x) 1).val % 128; omega

theorem keys_cover (W : Vec F S4096x128 .i32) (k : Fin k0_t1_loop.trips) (y : S512x512.Idx) :
    ∃ p ∈ tileList.map fun gc => keyPiece W k gc.1 gc.2, y ∈ p.1.set := by
  have h0 : (y 0).val < 512 := (y 0).isLt
  have h1 : (y 1).val < 512 := (y 1).isLt
  refine ⟨_, List.mem_map.2 ⟨(⟨(y 0).val / 32, by omega⟩, ⟨(y 1).val / 128, by omega⟩), mem_tileList _ _, rfl⟩, ?_⟩
  refine (Rect.mem_set_unit (inb := tile_inb _ _)).2 fun a => ?_
  match a with
  | 0 => show 32 * ((y 0).val / 32) ≤ (y 0).val ∧ (y 0).val < 32 * ((y 0).val / 32) + 32; omega
  | 1 => show 128 * ((y 1).val / 128) ≤ (y 1).val ∧ (y 1).val < 128 * ((y 1).val / 128) + 128; omega

/-- What the trip loads back from the code scratch. -/
theorem keys_eq (arg2 : Memref sig .tc .vmem S4096x128 .i32) (arg6 : Memref sig .tc .vmem S512x512 .bf16) (X : BufTy.Contents (Elt F) arg2.view.ty) (k : Fin k0_t1_loop.trips) :
    trip_k0_t1.sl.v1467 (F := F) arg2 arg6 X k = keys (arg2.view.read (Elt F) X) k := by
  unfold trip_k0_t1.sl.v1467
  rw [pieces_eq, View.readCov_eq_canon_ld _ _ _ (keys_cover _ _), View.ld_unit_zero (by funext a; match a with | 0 => rfl | 1 => rfl)]
  funext y
  refine View.canon_apply_of_pieces _ _ (fun p hp x => ?_) y (keys_cover _ _ y)
  obtain ⟨gc, -, rfl⟩ := List.mem_map.1 hp
  exact keyPiece_apply _ _ _ _ x

/-! ## The two stores of a trip -/

/-- The scores before scaling: the sixteen queries' two half-lane rows against all the codes of the trip. -/
def dots (x : Vec F S128x256 .bf16) (W : Vec F S4096x128 .i32) (k : Fin k0_t1_loop.trips) : FVec F S32x512 .f32 :=
  k0_pay248 k0_pay1 (View.ld x (Rect.unit (s := S128x256) (k0_off2 k) S16x256.size (k0_off2_inb k))) (keys W k)

def scale0 (sc : Vec F S2x32x128 .f32) (k : Fin k0_t1_loop.trips) : FVec F S1x512 .f32 :=
  k0_pay249 (View.ld sc (Rect.unit (s := S2x32x128) (k0_off3 k) S1x4x128.size (k0_off3_inb k)))

def scale1 (sc : Vec F S2x32x128 .f32) (k : Fin k0_t1_loop.trips) : FVec F S1x512 .f32 :=
  k0_pay250 (View.ld sc (Rect.unit (s := S2x32x128) (k0_off4 k) S1x4x128.size (k0_off4_inb k)))

def scaled0 (x : Vec F S128x256 .bf16) (W : Vec F S4096x128 .i32) (sc : Vec F S2x32x128 .f32) (k : Fin k0_t1_loop.trips) : FVec F S16x512 .f32 :=
  k0_pay251 k0_pay1 (View.ld x (Rect.unit (s := S128x256) (k0_off2 k) S16x256.size (k0_off2_inb k))) (keys W k)
    (View.ld sc (Rect.unit (s := S2x32x128) (k0_off3 k) S1x4x128.size (k0_off3_inb k)))

/-- The sixteen pooled rows of trip `k`. -/
def pooledRows (x : Vec F S128x256 .bf16) (W : Vec F S4096x128 .i32) (sc : Vec F S2x32x128 .f32) (k : Fin k0_t1_loop.trips) : FVec F S16x256 .bf16 :=
  k0_pay265 k0_pay1 (k0_pay260 k0_pay2 (keys W k) (dots x W k) (scale0 sc k) (scale1 sc k) (scaled0 x W sc k))
    (k0_pay261 k0_pay2 (keys W k) (dots x W k) (scale0 sc k) (scale1 sc k) (scaled0 x W sc k))
    (k0_pay262 k0_pay2 (keys W k) (dots x W k) (scale0 sc k) (scale1 sc k) (scaled0 x W sc k))
    (k0_pay263 k0_pay2 (keys W k) (dots x W k) (scale0 sc k) (scale1 sc k) (scaled0 x W sc k))
    (k0_pay264 k0_pay2 (keys W k) (dots x W k) (scale0 sc k) (scale1 sc k) (scaled0 x W sc k)) 64#32

/-- The sixteen rows of attention weights of trip `k`. -/
def attnRows (x : Vec F S128x256 .bf16) (W : Vec F S4096x128 .i32) (sc : Vec F S2x32x128 .f32) (k : Fin k0_t1_loop.trips) : FVec F S16x128 .f32 :=
  k0_pay266 (iota .tc S16x128 32 [1] iota_S16x128_d1_w32) (k0_pay258 k0_pay2 (dots x W k) (scale1 sc k) (scaled0 x W sc k))
    (k0_pay259 k0_pay2 (dots x W k) (scale1 sc k) (scaled0 x W sc k))

def pooledPiece (x : Vec F S128x256 .bf16) (W : Vec F S4096x128 .i32) (sc : Vec F S2x32x128 .f32) (k : Fin k0_t1_loop.trips) : View.Piece (Elt F) S128x256 .bf16 :=
  ⟨Rect.unit (s := S128x256) (k0_off2 k) S16x256.size (k0_off2_inb k), pooledRows x W sc k⟩

def attnPiece (x : Vec F S128x256 .bf16) (W : Vec F S4096x128 .i32) (sc : Vec F S2x32x128 .f32) (k : Fin k0_t1_loop.trips) : View.Piece (Elt F) S128x128 .f32 :=
  ⟨Rect.unit (s := S128x128) (k0_off5 k) S16x128.size (k0_off5_inb k), attnRows x W sc k⟩

/-- What the trip stores into the pooled block. -/
theorem trip_pooled (𝒱 : Variants) (c : Dev nD) (bd : Option 𝒱.V) (i : grid0.Coords) (arg1 : Memref sig .tc .vmem S128x256 .bf16) (harg1 : arg1.IsWhole) (arg2 : Memref sig .tc .vmem S4096x128 .i32) (harg2 : arg2.IsWhole) (arg3 : Memref sig .tc .vmem S2x32x128 .f32) (harg3 : arg3.IsWhole) (arg4 : Memref sig .tc .vmem S128x256 .bf16) (harg4 : arg4.IsWhole) (arg5 : Memref sig .tc .vmem S64x128 .f32) (harg5 : arg5.IsWhole) (arg6 : Memref sig .tc .vmem S512x512 .bf16) (harg6 : arg6.IsWhole) (arg7 : Memref sig .tc .vmem S128x128 .f32) (harg7 : arg7.IsWhole) (v0 : IVec S16x128 32) (X1 : BufTy.Contents (Elt F) arg1.view.ty) (X2 : BufTy.Contents (Elt F) arg2.view.ty) (X3 : BufTy.Contents (Elt F) arg3.view.ty) (k : Fin k0_t1_loop.trips) (f4 : BufTy.Contents (Elt F) arg4.view.ty) (f6 : BufTy.Contents (Elt F) arg6.view.ty) (f7 : BufTy.Contents (Elt F) arg7.view.ty) :
    (tripL_k0_t1 (F := F) 𝒱 c bd i arg1 harg1 arg2 harg2 arg3 harg3 arg4 harg4 arg5 harg5 arg6 harg6 arg7 harg7 v0 X1 X2 X3 k f4 f6 f7).1
      = [pooledPiece (arg1.view.read (Elt F) X1) (arg2.view.read (Elt F) X2) (arg3.view.read (Elt F) X3) k] := by
  unfold tripL_k0_t1 trip_k0_t1; dsimp only
  unfold trip_k0_t1.sl.r_63 trip_k0_t1.sl.r_64 trip_k0_t1.sl.r_65 trip_k0_t1.sl.r_66 trip_k0_t1.sl.r_67 trip_k0_t1.sl.r_57 trip_k0_t1.sl.r_58 trip_k0_t1.sl.r_59 trip_k0_t1.sl.r_60
  simp only [keys_eq]
  rfl

/-- What the trip stores into the scratch of attention rows. -/
theorem trip_attn (𝒱 : Variants) (c : Dev nD) (bd : Option 𝒱.V) (i : grid0.Coords) (arg1 : Memref sig .tc .vmem S128x256 .bf16) (harg1 : arg1.IsWhole) (arg2 : Memref sig .tc .vmem S4096x128 .i32) (harg2 : arg2.IsWhole) (arg3 : Memref sig .tc .vmem S2x32x128 .f32) (harg3 : arg3.IsWhole) (arg4 : Memref sig .tc .vmem S128x256 .bf16) (harg4 : arg4.IsWhole) (arg5 : Memref sig .tc .vmem S64x128 .f32) (harg5 : arg5.IsWhole) (arg6 : Memref sig .tc .vmem S512x512 .bf16) (harg6 : arg6.IsWhole) (arg7 : Memref sig .tc .vmem S128x128 .f32) (harg7 : arg7.IsWhole) (X1 : BufTy.Contents (Elt F) arg1.view.ty) (X2 : BufTy.Contents (Elt F) arg2.view.ty) (X3 : BufTy.Contents (Elt F) arg3.view.ty) (k : Fin k0_t1_loop.trips) (f4 : BufTy.Contents (Elt F) arg4.view.ty) (f6 : BufTy.Contents (Elt F) arg6.view.ty) (f7 : BufTy.Contents (Elt F) arg7.view.ty) :
    (tripL_k0_t1 (F := F) 𝒱 c bd i arg1 harg1 arg2 harg2 arg3 harg3 arg4 harg4 arg5 harg5 arg6 harg6 arg7 harg7 (iota .tc S16x128 32 [1] iota_S16x128_d1_w32) X1 X2 X3 k f4 f6 f7).2.2
      = [attnPiece (arg1.view.read (Elt F) X1) (arg2.view.read (Elt F) X2) (arg3.view.read (Elt F) X3) k] := by
  unfold tripL_k0_t1 trip_k0_t1; dsimp only
  unfold trip_k0_t1.sl.r_68 trip_k0_t1.sl.r_61 trip_k0_t1.sl.r_62 trip_k0_t1.sl.r_57 trip_k0_t1.sl.r_59 trip_k0_t1.sl.r_60
  simp only [keys_eq]
  rfl

end Cert.Kernel.Attend

end
-- ==== Proof.KernelBody.lean ====
/- The attention kernel's body at a grid point, and the run of the program: the body stores into the pooled block and
   the attention block functions of the three blocks it reads (`pooledBlock`, `attnBlock`), so every execution ends with
   the two result arrays at those functions block by block, and the argument arrays unchanged. -/
module

public import proofs.«01_k».proof.Proof.Gen.Kernel.Frame
public import proofs.«01_k».proof.Proof.KernelTrip
public import Idealize.ShloMosaic.Lib.Claim
public import Idealize.ShloMosaic.Lib.Tactic

@[expose] public section

set_option maxRecDepth 16384

noncomputable section

namespace Cert.Kernel.Attend

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the eight trips leave -/

/-- The trip that treats query `q` of a block of 128. -/
def trip (q : Fin 128) : Fin k0_t1_loop.trips := ⟨q.val / 16, by rw [trips_eq]; omega⟩

/-- The pooled block: row `q` from trip `q / 16`. -/
def pooledBlock (x : Vec F S128x256 .bf16) (W : Vec F S4096x128 .i32) (sc : Vec F S2x32x128 .f32) : Vec F S128x256 .bf16 := fun y =>
  pooledRows x W sc (trip (y 0)) (ix2 ⟨(y 0).val % 16, Nat.mod_lt _ (by decide)⟩ (y 1))

/-- The attention rows of the block: row `q` from trip `q / 16`. -/
def attnScratch (x : Vec F S128x256 .bf16) (W : Vec F S4096x128 .i32) (sc : Vec F S2x32x128 .f32) : Vec F S128x128 .f32 := fun y =>
  attnRows x W sc (trip (y 0)) (ix2 ⟨(y 0).val % 16, Nat.mod_lt _ (by decide)⟩ (y 1))

/-- The attention block: those rows transposed, the 64 lanes in use. -/
def attnBlock (x : Vec F S128x256 .bf16) (W : Vec F S4096x128 .i32) (sc : Vec F S2x32x128 .f32) : Vec F S64x128 .f32 :=
  k0_pay3 (attnScratch x W sc)

theorem off2_eq : ∀ k : Fin k0_t1_loop.trips, k0_off2 k = ![16 * k.val, 0] := by decide +kernel
theorem off5_eq : ∀ k : Fin k0_t1_loop.trips, k0_off5 k = ![16 * k.val, 0] := by decide +kernel

theorem trip_val_lt (k : Fin k0_t1_loop.trips) : k.val < 8 := trips_eq ▸ k.isLt

theorem pooledPiece_apply (x : Vec F S128x256 .bf16) (W : Vec F S4096x128 .i32) (sc : Vec F S2x32x128 .f32) (k : Fin k0_t1_loop.trips)
    (z : (pooledPiece x W sc k).1.shape.Idx) : (pooledPiece x W sc k).2 z = pooledBlock x W sc ((pooledPiece x W sc k).1.emb z) := by
  have h0 : (z 0).val < 16 := (z 0).isLt
  have e0 : (((pooledPiece x W sc k).1.emb z) 0).val = 16 * k.val + (z 0).val := by
    show k0_off2 k 0 + 1 * (z 0).val = _; rw [off2_eq]; show 16 * k.val + 1 * (z 0).val = _; omega
  have e1 : (((pooledPiece x W sc k).1.emb z) 1).val = (z 1).val := by
    show k0_off2 k 1 + 1 * (z 1).val = _; rw [off2_eq]; show 0 + 1 * (z 1).val = _; omega
  show pooledRows x W sc k z = pooledRows x W sc _ _
  congr 1
  · apply Fin.ext; show k.val = (((pooledPiece x W sc k).1.emb z) 0).val / 16; omega
  · funext a
    match a with
    | 0 => apply Fin.ext; show (z 0).val = (((pooledPiece x W sc k).1.emb z) 0).val % 16; omega
    | 1 => apply Fin.ext; exact e1.symm

theorem attnPiece_apply (x : Vec F S128x256 .bf16) (W : Vec F S4096x128 .i32) (sc : Vec F S2x32x128 .f32) (k : Fin k0_t1_loop.trips)
    (z : (attnPiece x W sc k).1.shape.Idx) : (attnPiece x W sc k).2 z = attnScratch x W sc ((attnPiece x W sc k).1.emb z) := by
  have h0 : (z 0).val < 16 := (z 0).isLt
  have e0 : (((attnPiece x W sc k).1.emb z) 0).val = 16 * k.val + (z 0).val := by
    show k0_off5 k 0 + 1 * (z 0).val = _; rw [off5_eq]; show 16 * k.val + 1 * (z 0).val = _; omega
  have e1 : (((attnPiece x W sc k).1.emb z) 1).val = (z 1).val := by
    show k0_off5 k 1 + 1 * (z 1).val = _; rw [off5_eq]; show 0 + 1 * (z 1).val = _; omega
  show attnRows x W sc k z = attnRows x W sc _ _
  congr 1
  · apply Fin.ext; show k.val = (((attnPiece x W sc k).1.emb z) 0).val / 16; omega
  · funext a
    match a with
    | 0 => apply Fin.ext; show (z 0).val = (((attnPiece x W sc k).1.emb z) 0).val % 16; omega
    | 1 => apply Fin.ext; exact e1.symm

theorem mem_pooledPiece (x : Vec F S128x256 .bf16) (W : Vec F S4096x128 .i32) (sc : Vec F S2x32x128 .f32) (y : S128x256.Idx) :
    y ∈ (pooledPiece x W sc (trip (y 0))).1.set := by
  have h0 : (y 0).val < 128 := (y 0).isLt
  have h1 : (y 1).val < 256 := (y 1).isLt
  refine (Rect.mem_set_unit (inb := k0_off2_inb _)).2 fun a => ?_
  rw [off2_eq]
  match a with
  | 0 => show 16 * ((y 0).val / 16) ≤ (y 0).val ∧ (y 0).val < 16 * ((y 0).val / 16) + 16; omega
  | 1 => show 0 ≤ (y 1).val ∧ (y 1).val < 0 + 256; omega

theorem mem_attnPiece (x : Vec F S128x256 .bf16) (W : Vec F S4096x128 .i32) (sc : Vec F S2x32x128 .f32) (y : S128x128.Idx) :
    y ∈ (attnPiece x W sc (trip (y 0))).1.set := by
  have h0 : (y 0).val < 128 := (y 0).isLt
  have h1 : (y 1).val < 128 := (y 1).isLt
  refine (Rect.mem_set_unit (inb := k0_off5_inb _)).2 fun a => ?_
  rw [off5_eq]
  match a with
  | 0 => show 16 * ((y 0).val / 16) ≤ (y 0).val ∧ (y 0).val < 16 * ((y 0).val / 16) + 16; omega
  | 1 => show 0 ≤ (y 1).val ∧ (y 1).val < 0 + 128; omega

section pieces

variable (𝒱 : Variants) (c : Dev nD) (bd : Option 𝒱.V) (i : grid0.Coords) (arg1 : Memref sig .tc .vmem S128x256 .bf16) (harg1 : arg1.IsWhole) (arg2 : Memref sig .tc .vmem S4096x128 .i32) (harg2 : arg2.IsWhole) (arg3 : Memref sig .tc .vmem S2x32x128 .f32) (harg3 : arg3.IsWhole) (arg4 : Memref sig .tc .vmem S128x256 .bf16) (harg4 : arg4.IsWhole) (arg5 : Memref sig .tc .vmem S64x128 .f32) (harg5 : arg5.IsWhole) (arg6 : Memref sig .tc .vmem S512x512 .bf16) (harg6 : arg6.IsWhole) (arg7 : Memref sig .tc .vmem S128x128 .f32) (harg7 : arg7.IsWhole)
  (X1 : BufTy.Contents (Elt F) arg1.view.ty) (X2 : BufTy.Contents (Elt F) arg2.view.ty) (X3 : BufTy.Contents (Elt F) arg3.view.ty) (f4 : BufTy.Contents (Elt F) arg4.view.ty) (f6 : BufTy.Contents (Elt F) arg6.view.ty) (f7 : BufTy.Contents (Elt F) arg7.view.ty)

/-- The pieces after `n` trips are those of the trips before `n`. -/
theorem pieces_are (n : Nat) (hn : n ≤ k0_t1_loop.trips) :
    (∀ p ∈ (pb_k0_t1 (F := F) 𝒱 c bd i arg1 harg1 arg2 harg2 arg3 harg3 arg4 harg4 arg5 harg5 arg6 harg6 arg7 harg7 (iota .tc S16x128 32 [1] iota_S16x128_d1_w32) X1 X2 X3 f4 f6 f7 n).1, ∃ k, p = pooledPiece (arg1.view.read (Elt F) X1) (arg2.view.read (Elt F) X2) (arg3.view.read (Elt F) X3) k)
    ∧ (∀ k : Fin k0_t1_loop.trips, k.val < n → pooledPiece (arg1.view.read (Elt F) X1) (arg2.view.read (Elt F) X2) (arg3.view.read (Elt F) X3) k ∈ (pb_k0_t1 (F := F) 𝒱 c bd i arg1 harg1 arg2 harg2 arg3 harg3 arg4 harg4 arg5 harg5 arg6 harg6 arg7 harg7 (iota .tc S16x128 32 [1] iota_S16x128_d1_w32) X1 X2 X3 f4 f6 f7 n).1)
    ∧ (∀ p ∈ (pb_k0_t1 (F := F) 𝒱 c bd i arg1 harg1 arg2 harg2 arg3 harg3 arg4 harg4 arg5 harg5 arg6 harg6 arg7 harg7 (iota .tc S16x128 32 [1] iota_S16x128_d1_w32) X1 X2 X3 f4 f6 f7 n).2.2, ∃ k, p = attnPiece (arg1.view.read (Elt F) X1) (arg2.view.read (Elt F) X2) (arg3.view.read (Elt F) X3) k)
    ∧ (∀ k : Fin k0_t1_loop.trips, k.val < n → attnPiece (arg1.view.read (Elt F) X1) (arg2.view.read (Elt F) X2) (arg3.view.read (Elt F) X3) k ∈ (pb_k0_t1 (F := F) 𝒱 c bd i arg1 harg1 arg2 harg2 arg3 harg3 arg4 harg4 arg5 harg5 arg6 harg6 arg7 harg7 (iota .tc S16x128 32 [1] iota_S16x128_d1_w32) X1 X2 X3 f4 f6 f7 n).2.2) := by
  induction n with
  | zero => exact ⟨fun p hp => absurd hp List.not_mem_nil, fun k hk => absurd hk (Nat.not_lt_zero _), fun p hp => absurd hp List.not_mem_nil, fun k hk => absurd hk (Nat.not_lt_zero _)⟩
  | succ n ih =>
    obtain ⟨h1, h2, h3, h4⟩ := ih (by omega)
    have e := pb_k0_t1_succ (F := F) 𝒱 c bd i arg1 harg1 arg2 harg2 arg3 harg3 arg4 harg4 arg5 harg5 arg6 harg6 arg7 harg7 (iota .tc S16x128 32 [1] iota_S16x128_d1_w32) X1 X2 X3 f4 f6 f7 ⟨n, by omega⟩
    rw [show n + 1 = (⟨n, by omega⟩ : Fin k0_t1_loop.trips).val + 1 from rfl, e, trip_pooled, trip_attn]
    refine ⟨fun p hp => ?_, fun k hk => ?_, fun p hp => ?_, fun k hk => ?_⟩
    · rcases List.mem_append.1 hp with hp | hp
      · exact ⟨_, List.mem_singleton.1 hp⟩
      · exact h1 p hp
    · by_cases hkn : k.val = n
      · exact List.mem_append_left _ (List.mem_singleton.2 (by congr 1; exact Fin.ext hkn))
      · exact List.mem_append_right _ (h2 k (by have : k.val < n + 1 := hk; omega))
    · rcases List.mem_append.1 hp with hp | hp
      · exact ⟨_, List.mem_singleton.1 hp⟩
      · exact h3 p hp
    · by_cases hkn : k.val = n
      · exact List.mem_append_left _ (List.mem_singleton.2 (by congr 1; exact Fin.ext hkn))
      · exact List.mem_append_right _ (h4 k (by have : k.val < n + 1 := hk; omega))

/-- The pooled block after the loop, whatever it held before. -/
theorem read_pooled : arg4.view.read (Elt F) (arg4.view.writes (Elt F) f4 (pb_k0_t1 (F := F) 𝒱 c bd i arg1 harg1 arg2 harg2 arg3 harg3 arg4 harg4 arg5 harg5 arg6 harg6 arg7 harg7 (iota .tc S16x128 32 [1] iota_S16x128_d1_w32) X1 X2 X3 f4 f6 f7 k0_t1_loop.trips).1) = pooledBlock (arg1.view.read (Elt F) X1) (arg2.view.read (Elt F) X2) (arg3.view.read (Elt F) X3) := by
  obtain ⟨h1, h2, -, -⟩ := pieces_are (F := F) 𝒱 c bd i arg1 harg1 arg2 harg2 arg3 harg3 arg4 harg4 arg5 harg5 arg6 harg6 arg7 harg7 X1 X2 X3 f4 f6 f7 k0_t1_loop.trips le_rfl
  funext y
  refine View.read_writes_apply_of_pieces _ _ _ _ (fun p hp z => ?_) y ⟨_, h2 (trip (y 0)) (trip (y 0)).isLt, mem_pooledPiece _ _ _ y⟩
  obtain ⟨k, rfl⟩ := h1 p hp
  exact pooledPiece_apply _ _ _ k z

/-- The scratch of attention rows after the loop, whatever it held before. -/
theorem read_attn : arg7.view.read (Elt F) (arg7.view.writes (Elt F) f7 (pb_k0_t1 (F := F) 𝒱 c bd i arg1 harg1 arg2 harg2 arg3 harg3 arg4 harg4 arg5 harg5 arg6 harg6 arg7 harg7 (iota .tc S16x128 32 [1] iota_S16x128_d1_w32) X1 X2 X3 f4 f6 f7 k0_t1_loop.trips).2.2) = attnScratch (arg1.view.read (Elt F) X1) (arg2.view.read (Elt F) X2) (arg3.view.read (Elt F) X3) := by
  obtain ⟨-, -, h3, h4⟩ := pieces_are (F := F) 𝒱 c bd i arg1 harg1 arg2 harg2 arg3 harg3 arg4 harg4 arg5 harg5 arg6 harg6 arg7 harg7 X1 X2 X3 f4 f6 f7 k0_t1_loop.trips le_rfl
  funext y
  refine View.read_writes_apply_of_pieces _ _ _ _ (fun p hp z => ?_) y ⟨_, h4 (trip (y 0)) (trip (y 0)).isLt, mem_attnPiece _ _ _ y⟩
  obtain ⟨k, rfl⟩ := h3 p hp
  exact attnPiece_apply _ _ _ k z

end pieces

theorem cover5 (p0 : Vec F S64x128 .f32) (y : S64x128.Idx) :
    ∃ pc ∈ ([⟨Rect.unit (s := S64x128) ![0, 0] S64x128.size inb_S64x128_S64x128_0_0, p0⟩] : List (View.Piece (Elt F) S64x128 .f32)), y ∈ pc.1.set :=
  View.cover_of_tiled [⟨Rect.unit (s := S64x128) ![0, 0] S64x128.size inb_S64x128_S64x128_0_0, p0⟩] S64x128.size (by rfl) y

/-! ## The body's triple -/

set_option maxHeartbeats 1000000 in
/-- The body on whole memrefs: the inputs as they were, the pooled block at `pooledBlock`, the attention block at
    `attnBlock`, the two scratch buffers at whatever the loop left. -/
theorem sound_kernel (c : Dev nD) (E : Set ℕ) (i : grid0.Coords) (arg1 : Memref sig .tc .vmem S128x256 .bf16) (harg1 : arg1.IsWhole) (arg2 : Memref sig .tc .vmem S4096x128 .i32) (harg2 : arg2.IsWhole) (arg3 : Memref sig .tc .vmem S2x32x128 .f32) (harg3 : arg3.IsWhole) (arg4 : Memref sig .tc .vmem S128x256 .bf16) (harg4 : arg4.IsWhole) (arg5 : Memref sig .tc .vmem S64x128 .f32) (harg5 : arg5.IsWhole) (arg6 : Memref sig .tc .vmem S512x512 .bf16) (harg6 : arg6.IsWhole) (arg7 : Memref sig .tc .vmem S128x128 .f32) (harg7 : arg7.IsWhole)
    (x : Vec F S128x256 .bf16) (W : Vec F S4096x128 .i32) (sc : Vec F S2x32x128 .f32) (K : PUnit → sProp 𝕄) :
    iprop(owns (c : Thread nD τ) arg1 fullShare x ∗ owns (c : Thread nD τ) arg2 fullShare W ∗ owns (c : Thread nD τ) arg3 fullShare sc
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare W ∗ owns (c : Thread nD τ) arg3 fullShare sc
            ∗ owns (c : Thread nD τ) arg4 fullShare (pooledBlock x W sc) ∗ owns (c : Thread nD τ) arg5 fullShare (attnBlock x W sc)
            ∗ (∃ d, owns (c : Thread nD τ) arg6 fullShare d) ∗ (∃ d, owns (c : Thread nD τ) arg7 fullShare d)) -∗ K ⟨⟩))
      ⊢ wp frame (wpE (defs₀ (F := F)) Variants.none c none) E (cc0_attend i arg1 harg1 arg2 harg2 arg3 harg3 arg4 harg4 arg5 harg5 arg6 harg6 arg7 harg7) K := by
  simp only [cc0_attend_eq_skeleton]; unfold cc0_attend_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact read_pooled Variants.none c none i arg1 harg1 arg2 harg2 arg3 harg3 arg4 harg4 arg5 harg5 arg6 harg6 arg7 harg7 f1 f2 f3 f4 f6 f7
  isplitl [H5]
  · iexists _; isplitr
    swap; · iexact H5
    ipureintro
    rw [View.read_writes_eq_canon _ _ _ (cover5 _)]
    unfold sound_kernel.sl.v31
    rw [View.readAt_eq_ld]
    refine (View.canon_unit_zero (by funext a; match a with | 0 => rfl | 1 => rfl) _ _).trans ?_
    unfold attnBlock
    rw [← read_attn Variants.none c none i arg1 harg1 arg2 harg2 arg3 harg3 arg4 harg4 arg5 harg5 arg6 harg6 arg7 harg7 f1 f2 f3 f4 f6 f7]
    rw [View.ld_unit_zero (by funext a; match a with | 0 => rfl | 1 => rfl)]
    rfl
  isplitl [H6]
  · iexists _; iexists _; isplitr
    swap; · iexact H6
    ipureintro; rfl
  iexists _; iexists _; isplitr
  swap; · iexact H7
  ipureintro; rfl

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => pooledBlock (iblk m c 0 t) (iblk m c 1 t) (iblk m c 2 t)
    | ⟨4, _⟩ => attnBlock (iblk m c 0 t) (iblk m c 1 t) (iblk m c 2 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = pooledBlock (iblk m c 0 t) (iblk m c 1 t) (iblk m c 2 t) := by dsimp only [dats]
theorem after0_4 (c : Dev nD) (t : Fin cfg0.N) : (dats m 0 c).after 4 t = attnBlock (iblk m c 0 t) (iblk m c 1 t) (iblk m c 2 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks (`before0_W`), so `sound_kernel` applies; the two scratch buffers are
    taken out of the invariant and given back; the core's `owes` passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl]
  unfold Pipeline.ΦA; rw [scopedRest0_eq]
  iintro ⟨⟨⟨⟨%g6, G6⟩, ⟨%g7, G7⟩⟩, Hr⟩, Ho, ⟨%d0, H0⟩, ⟨%d1, H1⟩, ⟨%d2, H2⟩, ⟨%d3, H3⟩, ⟨%d4, H4⟩⟩
  iapply (sound_kernel c Set.univ _ _ _ _ _ _ _ _ _ _ _ (Memref.whole cc0_scratch0) _ (Memref.whole cc0_scratch1) _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [G6]; · iexists g6; iapply (Entails.of_eq (owns_whole (c : Thread nD τ) cc0_scratch0 fullShare g6).symm); iexact G6
  isplitl [G7]; · iexists g7; iapply (Entails.of_eq (owns_whole (c : Thread nD τ) cc0_scratch1 fullShare g7).symm); iexact G7
  iintro ⟨H0, H1, H2, H3, H4, ⟨%e6, G6⟩, ⟨%e7, G7⟩⟩
  isplitl [G6 G7 Hr]
  · isplitl [G6 G7]
    · isplitl [G6]
      · iexists e6; iapply (Entails.of_eq (owns_whole (c : Thread nD τ) cc0_scratch0 fullShare e6)); iexact G6
      iexists e7; iapply (Entails.of_eq (owns_whole (c : Thread nD τ) cc0_scratch1 fullShare e7)); iexact G7
    iexact Hr
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the host lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_Kernel`'s statement (Defs.lean) at any `F`  -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Attend

end
-- ==== Proof.Softmax.lean ====
/- One query's attention over its 64 keys at the extended reals, as plain mathematics, and the facts about it that do not
   mention any program: how a sum or a maximum over 512 lanes, all but 32 of them idle, is the sum or the maximum over
   the 32. -/
module

public import Idealize.ShloMosaic.Lib.Pointwise

@[expose] public section

noncomputable section

namespace Cert.Attention

open Idealize.ShloMosaic

/-- The value of a code byte. -/
def codeVal (b : BitVec 8) : EReal := Ideal.ofBits .fp8e4m3 b

/-- Byte `c` of a word. -/
def byteOf (w : BitVec 32) (c : Fin 4) : BitVec 8 := w.extractLsb' (8 * c.val) 8

/-- Which byte of its word the dimensions `64 a ..` of a key use. -/
def byteIx : Fin 4 → Fin 4 := ![0, 2, 1, 3]

/-- 1/16, the score's scale, as the programs write it. -/
def kappa : EReal := Ideal.ofBits .f32 0x3D800000#32

variable (x : Fin 256 → EReal) (kc : Fin 64 → Fin 256 → EReal) (s : Fin 64 → EReal)

/-- The score of key `j`. -/
def score (j : Fin 64) : EReal := (∑ d, x d * kc j d) * s j * kappa

/-- The largest score. -/
def top : EReal := Finset.univ.fold max ⊥ (score x kc s)

/-- The softmax's denominator. -/
def den : EReal := ∑ j, Ideal.exp (score x kc s j - top x kc s)

/-- The attention weight of key `j`. -/
def attn (j : Fin 64) : EReal := Ideal.div (Ideal.exp (score x kc s j - top x kc s)) (den x kc s)

/-- Dimension `d` of the attended value. -/
def pooled (d : Fin 256) : EReal := ∑ j, attn x kc s j * s j * kc j d

/-- Every score is a real number. -/
def Real' : Prop := ∀ j, ∃ r : ℝ, score x kc s j = (r : EReal)

theorem score_le_top (j : Fin 64) : score x kc s j ≤ top x kc s :=
  (Finset.fold_max_le (top x kc s)).1 le_rfl |>.2 j (Finset.mem_univ j)

theorem exists_top : ∃ j, score x kc s j = top x kc s := by
  rcases (Finset.le_fold_max (s := Finset.univ) (f := score x kc s) (b := ⊥) (top x kc s)).1 le_rfl with h | ⟨j, -, h⟩
  · refine ⟨0, ?_⟩
    have h0 := score_le_top x kc s 0
    rw [le_bot_iff.1 h] at h0 ⊢
    exact le_bot_iff.1 h0
  · exact ⟨j, le_antisymm (score_le_top x kc s j) h⟩

theorem exp_nonneg (a : EReal) : 0 ≤ Ideal.exp a := by
  induction a with
  | bot => exact le_rfl
  | top => exact le_top
  | coe r => exact EReal.coe_nonneg.2 (Real.exp_pos r).le

/-- The largest score contributes 1 to the denominator. -/
theorem den_ne_zero (h : Real' x kc s) : den x kc s ≠ 0 := by
  obtain ⟨j, hj⟩ := exists_top x kc s
  obtain ⟨r, hr⟩ := h j
  have h1 : Ideal.exp (score x kc s j - top x kc s) = 1 := by
    rw [← hj, hr, ← EReal.coe_sub, sub_self]
    show ((Real.exp 0 : ℝ) : EReal) = 1
    rw [Real.exp_zero]; rfl
  have h2 : (1 : EReal) ≤ den x kc s := by
    rw [← h1]
    exact Finset.single_le_sum (f := fun j => Ideal.exp (score x kc s j - top x kc s)) (fun i _ => exp_nonneg _) (Finset.mem_univ j)
  intro h0
  rw [h0] at h2
  exact absurd h2 (by simp)

theorem zero_div {a : EReal} (h : a ≠ 0) : Ideal.div 0 a = 0 := by
  unfold Ideal.div; rw [if_neg h, zero_mul]

theorem exp_bot_sub (a : EReal) : Ideal.exp (⊥ - a) = 0 := by rw [EReal.bot_sub]; rfl

theorem select_if {α : Type} (P : Prop) [Decidable P] (a b : α) : Scalar.select (if P then 1#1 else 0#1) a b = if P then a else b := by
  split_ifs <;> rfl

/-! ## Lanes: 32 in use of 512 -/

/-- Lane `32 g + r`. -/
def lane (g : Fin 16) (r : Fin 32) : Fin 512 := ⟨32 * g.val + r.val, by omega⟩

/-- Key `32 p + r`. -/
def keyIx (p : Fin 2) (r : Fin 32) : Fin 64 := ⟨32 * p.val + r.val, by omega⟩

theorem lane_injective (g : Fin 16) : Function.Injective (lane g) := fun a b h => by
  have := congrArg Fin.val h
  simp only [lane] at this
  exact Fin.ext (by omega)

theorem lane_of (g : Fin 16) (i : Fin 512) (h : i.val / 32 = g.val) : lane g ⟨i.val % 32, Nat.mod_lt _ (by decide)⟩ = i :=
  Fin.ext (by show 32 * g.val + i.val % 32 = i.val; omega)

/-- A sum over the lanes of which only those of `g` contribute. -/
theorem sum_lanes (g : Fin 16) (f : Fin 512 → EReal) (h : ∀ i : Fin 512, i.val / 32 ≠ g.val → f i = 0) : ∑ i, f i = ∑ r, f (lane g r) := by
  refine (Fintype.sum_of_injective (lane g) (lane_injective g) _ _ (fun i hi => h i fun e => hi ⟨_, lane_of g i e⟩) fun _ => rfl).symm

/-- A sum over the keys is the two sums over the keys of either parity. -/
theorem sum_keys (f : Fin 64 → EReal) : ∑ j, f j = ∑ r, f (keyIx 0 r) + ∑ r, f (keyIx 1 r) := by
  rw [show (∑ j, f j) = ∑ j : Fin (32 + 32), f j from rfl, Fin.sum_univ_add]
  exact congrArg₂ (· + ·) (Finset.sum_congr rfl fun r _ => congrArg f (Fin.ext (by simp [keyIx])))
    (Finset.sum_congr rfl fun r _ => congrArg f (Fin.ext (by simp [keyIx, Nat.add_comm])))

theorem keyIx_of (j : Fin 64) : keyIx ⟨j.val / 32, by omega⟩ ⟨j.val % 32, Nat.mod_lt _ (by decide)⟩ = j :=
  Fin.ext (by show 32 * (j.val / 32) + j.val % 32 = j.val; omega)

/-- The maximum over the lanes of both parities, idle lanes at `-∞`, is the maximum over the keys. -/
theorem max_lanes (g : Fin 16) (f : Fin 64 → EReal) (u : Fin 2 → Fin 512 → EReal)
    (hu : ∀ p r, u p (lane g r) = f (keyIx p r)) (hi : ∀ p (i : Fin 512), i.val / 32 ≠ g.val → u p i = ⊥) :
    max (Finset.univ.fold max ⊥ (u 0)) (Finset.univ.fold max ⊥ (u 1)) = Finset.univ.fold max ⊥ f := by
  have key : ∀ p, Finset.univ.fold max ⊥ (u p) ≤ Finset.univ.fold max ⊥ f := fun p => by
    refine (Finset.fold_max_le _).2 ⟨bot_le, fun i _ => ?_⟩
    by_cases h : i.val / 32 = g.val
    · rw [← lane_of g i h, hu]
      exact (Finset.fold_max_le _).1 le_rfl |>.2 _ (Finset.mem_univ _)
    · rw [hi p i h]; exact bot_le
  refine le_antisymm (max_le (key 0) (key 1)) ((Finset.fold_max_le _).2 ⟨bot_le, fun j _ => ?_⟩)
  have h1 : ∀ p i, u p i ≤ max (Finset.univ.fold max ⊥ (u 0)) (Finset.univ.fold max ⊥ (u 1)) := fun p i => by
    have h2 : u p i ≤ Finset.univ.fold max ⊥ (u p) := (Finset.fold_max_le _).1 le_rfl |>.2 _ (Finset.mem_univ _)
    match p with
    | 0 => exact h2.trans (le_max_left _ _)
    | 1 => exact h2.trans (le_max_right _ _)
  have h2 := h1 ⟨j.val / 32, by omega⟩ (lane g ⟨j.val % 32, Nat.mod_lt _ (by decide)⟩)
  rwa [hu, keyIx_of] at h2

/-- Column `128 (byteIx (d / 64)) + 64 p + d % 64`: where the lane-shuffled layout keeps dimension `d` of the keys of parity `p`. -/
def column (p : Fin 2) (d : Fin 256) : Fin 512 := ⟨128 * (byteIx ⟨d.val / 64, by omega⟩).val + 64 * p.val + d.val % 64, by
  have := (byteIx ⟨d.val / 64, by omega⟩).isLt; omega⟩

theorem column_val (p : Fin 2) (d : Fin 256) : (column p d).val
    = if d.val < 64 then 64 * p.val + d.val else if d.val < 128 then 192 + 64 * p.val + d.val
      else if d.val < 192 then 64 * p.val + d.val else 192 + 64 * p.val + d.val := by
  have h : ∀ a : Fin 4, (byteIx a).val = if a.val = 0 then 0 else if a.val = 1 then 2 else if a.val = 2 then 1 else 3 := by decide
  simp only [column, h]
  split_ifs <;> omega

theorem column_injective (p : Fin 2) : Function.Injective (column p) := fun a b h => by
  have h0 := congrArg Fin.val h
  simp only [column] at h0
  have h1 : byteIx ⟨a.val / 64, by omega⟩ = byteIx ⟨b.val / 64, by omega⟩ := Fin.ext (by omega)
  have h2 : ∀ u v : Fin 4, byteIx u = byteIx v → u = v := by decide
  have h3 := congrArg Fin.val (h2 _ _ h1)
  simp only at h3
  exact Fin.ext (by rw [h1] at h0; omega)

theorem column_of (p : Fin 2) (i : Fin 512) (h : i.val % 128 / 64 = p.val) : ∃ d, column p d = i := by
  refine ⟨⟨64 * (byteIx ⟨i.val / 128, by omega⟩).val + i.val % 64, by have := (byteIx ⟨i.val / 128, by omega⟩).isLt; omega⟩, Fin.ext ?_⟩
  simp only [column]
  have e : (⟨(64 * (byteIx ⟨i.val / 128, by omega⟩).val + i.val % 64) / 64, by have := (byteIx ⟨i.val / 128, by omega⟩).isLt; omega⟩ : Fin 4)
      = byteIx ⟨i.val / 128, by omega⟩ := Fin.ext (by show (64 * (byteIx ⟨i.val / 128, by omega⟩).val + i.val % 64) / 64 = _; omega)
  rw [e, show ∀ u, byteIx (byteIx u) = u by decide]
  simp only
  omega

/-- A sum over the columns of which only one half of the lanes contributes. -/
theorem sum_columns (p : Fin 2) (f : Fin 512 → EReal) (h : ∀ i : Fin 512, i.val % 128 / 64 ≠ p.val → f i = 0) : ∑ i, f i = ∑ d, f (column p d) :=
  (Fintype.sum_of_injective (column p) (column_injective p) _ _ (fun i hi => h i fun e => hi (column_of p i e)) fun _ => rfl).symm

end Cert.Attention

end
-- ==== Proof.Codes.lean ====
/- The code bytes the attention kernel decodes, element by element: a tile's row `r`, lane `l` is the value of byte `c` of
   the word in row `8 (r % 4) + r / 4` of the query's 32 rows of words. -/
module

public import proofs.«01_k».proof.Proof.Trip
public import proofs.«01_k».proof.Proof.Softmax
public import Idealize.ShloMosaic.Lib.BitcastPair

@[expose] public section

set_option maxRecDepth 16384

noncomputable section

namespace Cert.KernelIdeal.Attend

open Cert.KernelIdeal Cert.KernelIdeal.Gen Cert.Attention
open Idealize.ShloMosaic Idealize.ShloMosaic.TcCoe Idealize.SL.Sem

theorem trip_lt (k : Fin k0_t1_loop.trips) : k.val < 8 := trips_eq ▸ k.isLt

theorem off1_eq : ∀ (k : Fin k0_t1_loop.trips) (g : Fin 16) (i : Fin 4),
    k0_off1 k (BitVec.ofNat 32 g.val) (BitVec.ofNat 32 (8 * i.val)) = ![512 * k.val + 32 * g.val + 8 * i.val, 0] := by decide +kernel

theorem words_apply (W : Vec Ideal S4096x128 .i32) (k : Fin k0_t1_loop.trips) (g : Fin 16) (i : Fin 4) (r : Fin 8) (l : Fin 128) :
    words W k g i (ix2 r l) = W (ix2 ⟨512 * k.val + 32 * g.val + 8 * i.val + r.val, by have := trip_lt k; omega⟩ l) := by
  pointwise [words]
  congr 2
  · apply Fin.ext; show k0_off1 k _ _ 0 + r.val = _; rw [off1_eq]; rfl
  · apply Fin.ext; show k0_off1 k _ _ 1 + l.val = _; rw [off1_eq]; show 0 + l.val = _; omega

/-! Four words' bytes side by side, as words. -/

def evens' (a b : BitVec 32) : BitVec 32 := a &&& 16711935#32 ||| (b &&& 16711935#32) <<< 8
def odds' (a b : BitVec 32) : BitVec 32 := (a >>> 8) &&& 16711935#32 ||| b &&& 4278255360#32
def lows' (a b : BitVec 32) : BitVec 32 := a &&& 65535#32 ||| b <<< 16
def highs' (a b : BitVec 32) : BitVec 32 := a >>> 16 ||| b &&& 4294901760#32

theorem evens_byte (a b : BitVec 32) : byteOf (evens' a b) 0 = byteOf a 0 ∧ byteOf (evens' a b) 1 = byteOf b 0
    ∧ byteOf (evens' a b) 2 = byteOf a 2 ∧ byteOf (evens' a b) 3 = byteOf b 2 := by
  refine ⟨?_, ?_, ?_, ?_⟩ <;> apply BitVec.eq_of_getLsbD_eq <;> intro j hj <;> interval_cases j <;>
    simp [byteOf, evens', BitVec.getLsbD_extractLsb', BitVec.getLsbD_ofNat]

theorem odds_byte (a b : BitVec 32) : byteOf (odds' a b) 0 = byteOf a 1 ∧ byteOf (odds' a b) 1 = byteOf b 1
    ∧ byteOf (odds' a b) 2 = byteOf a 3 ∧ byteOf (odds' a b) 3 = byteOf b 3 := by
  refine ⟨?_, ?_, ?_, ?_⟩ <;> apply BitVec.eq_of_getLsbD_eq <;> intro j hj <;> interval_cases j <;>
    simp [byteOf, odds', BitVec.getLsbD_extractLsb', BitVec.getLsbD_ofNat]

theorem lows_byte (a b : BitVec 32) : byteOf (lows' a b) 0 = byteOf a 0 ∧ byteOf (lows' a b) 1 = byteOf a 1
    ∧ byteOf (lows' a b) 2 = byteOf b 0 ∧ byteOf (lows' a b) 3 = byteOf b 1 := by
  refine ⟨?_, ?_, ?_, ?_⟩ <;> apply BitVec.eq_of_getLsbD_eq <;> intro j hj <;> interval_cases j <;>
    simp [byteOf, lows', BitVec.getLsbD_extractLsb', BitVec.getLsbD_ofNat]

theorem highs_byte (a b : BitVec 32) : byteOf (highs' a b) 0 = byteOf a 2 ∧ byteOf (highs' a b) 1 = byteOf a 3
    ∧ byteOf (highs' a b) 2 = byteOf b 2 ∧ byteOf (highs' a b) 3 = byteOf b 3 := by
  refine ⟨?_, ?_, ?_, ?_⟩ <;> apply BitVec.eq_of_getLsbD_eq <;> intro j hj <;> interval_cases j <;>
    simp [byteOf, highs', BitVec.getLsbD_extractLsb', BitVec.getLsbD_ofNat]

/-- Four words' bytes `c` side by side: byte `i` of the result is byte `c` of word `i`. -/
theorem gathered_byte (v : Fin 4 → IVec S8x128 32) (c i : Fin 4) (y : S8x128.Idx) : byteOf (gathered v c y) i = byteOf (v i y) c := by
  have e : ∀ a b : IVec S8x128 32, evens a b y = evens' (a y) (b y) := fun _ _ => rfl
  have o : ∀ a b : IVec S8x128 32, odds a b y = odds' (a y) (b y) := fun _ _ => rfl
  have l : ∀ a b : IVec S8x128 32, lows a b y = lows' (a y) (b y) := fun _ _ => rfl
  have h : ∀ a b : IVec S8x128 32, highs a b y = highs' (a y) (b y) := fun _ _ => rfl
  obtain ⟨e0, e1, e2, e3⟩ := evens_byte (v 0 y) (v 1 y)
  obtain ⟨e0', e1', e2', e3'⟩ := evens_byte (v 2 y) (v 3 y)
  obtain ⟨o0, o1, o2, o3⟩ := odds_byte (v 0 y) (v 1 y)
  obtain ⟨o0', o1', o2', o3'⟩ := odds_byte (v 2 y) (v 3 y)
  fin_cases c
  · obtain ⟨a, b, c, d⟩ := lows_byte (evens' (v 0 y) (v 1 y)) (evens' (v 2 y) (v 3 y))
    show byteOf (lows _ _ y) i = _
    rw [l, e, e]
    fin_cases i
    exacts [a.trans e0, b.trans e1, c.trans e0', d.trans e1']
  · obtain ⟨a, b, c, d⟩ := lows_byte (odds' (v 0 y) (v 1 y)) (odds' (v 2 y) (v 3 y))
    show byteOf (lows _ _ y) i = _
    rw [l, o, o]
    fin_cases i
    exacts [a.trans o0, b.trans o1, c.trans o0', d.trans o1']
  · obtain ⟨a, b, c, d⟩ := highs_byte (evens' (v 0 y) (v 1 y)) (evens' (v 2 y) (v 3 y))
    show byteOf (highs _ _ y) i = _
    rw [h, e, e]
    fin_cases i
    exacts [a.trans e2, b.trans e3, c.trans e2', d.trans e3']
  · obtain ⟨a, b, c, d⟩ := highs_byte (odds' (v 0 y) (v 1 y)) (odds' (v 2 y) (v 3 y))
    show byteOf (highs _ _ y) i = _
    rw [h, o, o]
    fin_cases i
    exacts [a.trans o2, b.trans o3, c.trans o2', d.trans o3']

theorem bitcast_byte (w : IVec S8x128 32) (r : Fin 32) (l : Fin 128) :
    bitcast S32x128 8 w bitcasts_S8x128_w32_S32x128_w8 (ix2 r l) = byteOf (w (ix2 ⟨r.val / 4, by omega⟩ l)) ⟨r.val % 4, Nat.mod_lt _ (by decide)⟩ := by
  apply BitVec.eq_of_getLsbD_eq
  intro q hq
  rw [bitcast_getLsbD w _ _ q hq (by decide)]
  unfold byteOf
  rw [BitVec.getLsbD_extractLsb']
  have er : S32x128.row (ix2 r l) = r.val := rfl
  have ep : (S32x128.row (ix2 r l) * 8 + q) / 32 = r.val / 4 := by rw [er]; omega
  have eq : (S32x128.row (ix2 r l) * 8 + q) % 32 = 8 * (r.val % 4) + q := by rw [er]; omega
  rw [eq]
  simp only [hq, decide_true, Bool.true_and]
  congr 2
  funext a
  match a with
  | 0 => exact Fin.ext ep
  | 1 => rfl

theorem decoded_apply (w : IVec S8x128 32) (r : Fin 32) (l : Fin 128) :
    decoded (F := Ideal) w (ix2 r l) = codeVal (byteOf (w (ix2 ⟨r.val / 4, by omega⟩ l)) ⟨r.val % 4, Nat.mod_lt _ (by decide)⟩) := by
  pointwise [decoded]
  rw [bitcast_byte]; rfl

theorem keyTile_apply (W : Vec Ideal S4096x128 .i32) (k : Fin k0_t1_loop.trips) (g : Fin 16) (c : Fin 4) (r : Fin 32) (l : Fin 128) :
    keyTile W k g c (ix2 r l)
      = codeVal (byteOf (W (ix2 ⟨512 * k.val + 32 * g.val + 8 * (r.val % 4) + r.val / 4, by have := trip_lt k; omega⟩ l)) c) := by
  unfold keyTile
  rw [decoded_apply, gathered_byte]
  pointwise
  rw [words_apply]

/-- Row `32 g + r`, column `128 c + l` of the trip's codes. -/
theorem keys_apply (W : Vec Ideal S4096x128 .i32) (k : Fin k0_t1_loop.trips) (g : Fin 16) (r : Fin 32) (i : Fin 512) :
    keys W k (ix2 (lane g r) i)
      = codeVal (byteOf (W (ix2 ⟨512 * k.val + 32 * g.val + 8 * (r.val % 4) + r.val / 4, by have := trip_lt k; omega⟩ ⟨i.val % 128, Nat.mod_lt _ (by decide)⟩)) ⟨i.val / 128, by omega⟩) := by
  unfold keys
  have e0 : ((lane g r).val / 32) = g.val := by show (32 * g.val + r.val) / 32 = _; omega
  have e1 : ((lane g r).val % 32) = r.val := by show (32 * g.val + r.val) % 32 = _; omega
  refine Eq.trans ?_ (keyTile_apply W k g ⟨i.val / 128, by omega⟩ r ⟨i.val % 128, Nat.mod_lt _ (by decide)⟩)
  congr 1
  · exact Fin.ext e0
  · funext a
    match a with
    | 0 => exact Fin.ext e1
    | 1 => rfl

end Cert.KernelIdeal.Attend

end
-- ==== Proof.Scores.lean ====
/- The scores of one trip: row `16 p + g` of the trip's products against the key of lane `i` is the inner product of query
   `g` with the half of the shuffled key that belongs to the keys of parity `p`. -/
module

public import proofs.«01_k».proof.Proof.Codes

@[expose] public section

set_option maxRecDepth 16384

noncomputable section

namespace Cert.KernelIdeal.Attend

open Cert.KernelIdeal Cert.KernelIdeal.Gen Cert.Attention
open Idealize.ShloMosaic Idealize.ShloMosaic.TcCoe Idealize.SL.Sem

theorem low_apply : ∀ (g : Fin 16) (l : Fin 128), k0_pay1 (ix2 g l) = if l.val < 64 then 1#1 else 0#1 := by decide +kernel

theorem own_apply : ∀ (g : Fin 16) (l : Fin 512), k0_pay2 (ix2 g l) = if l.val / 32 = g.val then 1#1 else 0#1 := by decide +kernel

/-- Row `16 p + g`. -/
def row (p : Fin 2) (g : Fin 16) : Fin 32 := ⟨16 * p.val + g.val, by omega⟩

set_option maxHeartbeats 4000000 in
theorem pay248_0 (x : FVec Ideal S16x256 .bf16) (K : FVec Ideal S512x512 .bf16) (g : Fin 16) (i : Fin 512) :
    k0_pay248 (F := Ideal) k0_pay1 x K (ix2 (row 0 g) i) = ∑ d, x (ix2 g d) * K (ix2 i (column 0 d)) := by
  have hr : (row 0 g).val = g.val := by simp [row]
  pointwise [k0_pay248, low_apply]
  simp only [select_if]
  rw [sum_columns 0]
  · refine Finset.sum_congr rfl fun d _ => congrArg (· * _) ?_
    have hc := column_val 0 d
    simp only [Fin.val_zero, Fin.val_one] at hc
    split_ifs at hc <;> (generalize (column 0 d) = c at *) <;> (split_ifs <;> first
      | (exfalso; omega)
      | exact congrArg x (congrArg₂ ix2 (Fin.ext (by simp only; omega)) (Fin.ext (by simp only; omega))))
  · intro i' hi
    simp only [Fin.val_zero, Fin.val_one] at hi
    refine Eq.trans (congrArg (· * _) ?_) (zero_mul _)
    split_ifs <;> first | rfl | (exfalso; omega)

set_option maxHeartbeats 4000000 in
theorem pay248_1 (x : FVec Ideal S16x256 .bf16) (K : FVec Ideal S512x512 .bf16) (g : Fin 16) (i : Fin 512) :
    k0_pay248 (F := Ideal) k0_pay1 x K (ix2 (row 1 g) i) = ∑ d, x (ix2 g d) * K (ix2 i (column 1 d)) := by
  have hr : (row 1 g).val = 16 + g.val := by simp [row]
  pointwise [k0_pay248, low_apply]
  simp only [select_if]
  rw [sum_columns 1]
  · refine Finset.sum_congr rfl fun d _ => congrArg (· * _) ?_
    have hc := column_val 1 d
    simp only [Fin.val_zero, Fin.val_one] at hc
    split_ifs at hc <;> (generalize (column 1 d) = c at *) <;> (split_ifs <;> first
      | (exfalso; omega)
      | exact congrArg x (congrArg₂ ix2 (Fin.ext (by simp only; omega)) (Fin.ext (by simp only; omega))))
  · intro i' hi
    simp only [Fin.val_zero, Fin.val_one] at hi
    refine Eq.trans (congrArg (· * _) ?_) (zero_mul _)
    split_ifs <;> first | rfl | (exfalso; omega)

end Cert.KernelIdeal.Attend

end
-- ==== Proof.Rows.lean ====
/- The softmax and the pooling of one trip for one of its sixteen queries. Query `g` owns the lanes `32 g ..`; the lanes of
   the other queries are masked to `-∞` before the softmax, so they carry weight zero. -/
module

public import proofs.«01_k».proof.Proof.Scores

@[expose] public section

set_option maxRecDepth 16384

noncomputable section

namespace Cert.KernelIdeal.Attend

open Cert.KernelIdeal Cert.KernelIdeal.Gen Cert.Attention
open Idealize.ShloMosaic Idealize.ShloMosaic.TcCoe Idealize.SL.Sem

theorem negInf : Ideal.ofBits .f32 0xFF800000#32 = ⊥ := by
  show Ideal.ieee 8 23 0xFF800000#32 = ⊥
  unfold Ideal.ieee
  rw [if_pos (by decide), if_pos (by decide), if_pos (by decide)]

variable (D : FVec Ideal S32x512 .f32) (c0 c1 : FVec Ideal S1x512 .f32) (A : FVec Ideal S16x512 .f32) (K : FVec Ideal S512x512 .bf16)

theorem pay252_apply (g : Fin 16) (i : Fin 512) :
    k0_pay252 (F := Ideal) k0_pay2 A (ix2 g i) = if i.val / 32 = g.val then A (ix2 g i) * kappa else ⊥ := by
  pointwise [k0_pay252, own_apply]
  rw [select_if, negInf]; rfl

theorem pay253_apply (g : Fin 16) (i : Fin 512) :
    k0_pay253 (F := Ideal) k0_pay2 D c1 (ix2 g i) = if i.val / 32 = g.val then D (ix2 (row 1 g) i) * c1 (ix2 0 i) * kappa else ⊥ := by
  pointwise [k0_pay253, own_apply]
  rw [select_if, negInf]; rfl

theorem pay254_apply (g : Fin 16) : k0_pay254 (F := Ideal) k0_pay2 D c1 A (ix2 g 0)
    = max (Finset.univ.fold max ⊥ fun i => k0_pay252 (F := Ideal) k0_pay2 A (ix2 g i)) (Finset.univ.fold max ⊥ fun i => k0_pay253 (F := Ideal) k0_pay2 D c1 (ix2 g i)) := by
  pointwise [k0_pay254]
  rw [negInf]

theorem pay255_apply (g : Fin 16) (i : Fin 512) : k0_pay255 (F := Ideal) k0_pay2 D c1 A (ix2 g i)
    = Ideal.exp (k0_pay252 (F := Ideal) k0_pay2 A (ix2 g i) - k0_pay254 (F := Ideal) k0_pay2 D c1 A (ix2 g 0)) := by
  pointwise [k0_pay255]

theorem pay256_apply (g : Fin 16) (i : Fin 512) : k0_pay256 (F := Ideal) k0_pay2 D c1 A (ix2 g i)
    = Ideal.exp (k0_pay253 (F := Ideal) k0_pay2 D c1 (ix2 g i) - k0_pay254 (F := Ideal) k0_pay2 D c1 A (ix2 g 0)) := by
  pointwise [k0_pay256]

theorem pay257_apply (g : Fin 16) : k0_pay257 (F := Ideal) k0_pay2 D c1 A (ix2 g 0)
    = (∑ i, k0_pay255 (F := Ideal) k0_pay2 D c1 A (ix2 g i)) + ∑ i, k0_pay256 (F := Ideal) k0_pay2 D c1 A (ix2 g i) := by
  pointwise [k0_pay257]

theorem pay258_apply (g : Fin 16) (i : Fin 512) : k0_pay258 (F := Ideal) k0_pay2 D c1 A (ix2 g i)
    = Ideal.div (k0_pay255 (F := Ideal) k0_pay2 D c1 A (ix2 g i)) (k0_pay257 (F := Ideal) k0_pay2 D c1 A (ix2 g 0)) := by
  pointwise [k0_pay258]

theorem pay259_apply (g : Fin 16) (i : Fin 512) : k0_pay259 (F := Ideal) k0_pay2 D c1 A (ix2 g i)
    = Ideal.div (k0_pay256 (F := Ideal) k0_pay2 D c1 A (ix2 g i)) (k0_pay257 (F := Ideal) k0_pay2 D c1 A (ix2 g 0)) := by
  pointwise [k0_pay259]

theorem pay260_0 (g : Fin 16) (i : Fin 512) : k0_pay260 (F := Ideal) k0_pay2 K D c0 c1 A (ix2 (row 0 g) i)
    = ∑ l, k0_pay258 (F := Ideal) k0_pay2 D c1 A (ix2 g l) * c0 (ix2 0 l) * K (ix2 l i) := by
  pointwise [k0_pay260]
  refine Finset.sum_congr rfl fun l _ => congrArg (· * _) ?_
  have hr : (row 0 g).val = g.val := by simp [row]
  rw [dif_pos (by omega)]
  exact congrArg (fun u => k0_pay258 (F := Ideal) k0_pay2 D c1 A (ix2 u l) * _) (Fin.ext (by simp only; omega))

theorem pay260_1 (g : Fin 16) (i : Fin 512) : k0_pay260 (F := Ideal) k0_pay2 K D c0 c1 A (ix2 (row 1 g) i)
    = ∑ l, k0_pay259 (F := Ideal) k0_pay2 D c1 A (ix2 g l) * c1 (ix2 0 l) * K (ix2 l i) := by
  pointwise [k0_pay260]
  refine Finset.sum_congr rfl fun l _ => congrArg (· * _) ?_
  have hr : (row 1 g).val = 16 + g.val := by simp [row]
  rw [dif_neg (by omega)]
  exact congrArg (fun u => k0_pay259 (F := Ideal) k0_pay2 D c1 A (ix2 u l) * _) (Fin.ext (by simp only; omega))

set_option maxHeartbeats 4000000 in
/-- What the tail of a trip computes from the pooling products `o`: the halves of the shuffled columns put back in place. -/
theorem pay265_apply (g : Fin 16) (d : Fin 256) :
    k0_pay265 (F := Ideal) k0_pay1 (k0_pay260 k0_pay2 K D c0 c1 A) (k0_pay261 k0_pay2 K D c0 c1 A) (k0_pay262 k0_pay2 K D c0 c1 A)
      (k0_pay263 k0_pay2 K D c0 c1 A) (k0_pay264 k0_pay2 K D c0 c1 A) 64#32 (ix2 g d)
      = k0_pay260 (F := Ideal) k0_pay2 K D c0 c1 A (ix2 (row 0 g) (column 0 d)) + k0_pay260 (F := Ideal) k0_pay2 K D c0 c1 A (ix2 (row 1 g) (column 1 d)) := by
  pointwise [k0_pay265, k0_pay261, k0_pay262, k0_pay263, k0_pay264, low_apply]
  simp only [select_if]
  have h0 := column_val 0 d
  have h1 := column_val 1 d
  have r0 : (row 0 g).val = g.val := by simp [row]
  have r1 : (row 1 g).val = 16 + g.val := by simp [row]
  generalize k0_pay260 (F := Ideal) k0_pay2 K D c0 c1 A = o
  generalize row 0 g = u0 at *
  generalize row 1 g = u1 at *
  generalize column 0 d = v0 at *
  generalize column 1 d = v1 at *
  simp only [Fin.val_zero, Fin.val_one] at h0 h1
  split_ifs at h0 h1 <;> (split_ifs <;> first
    | (exfalso; omega)
    | exact congrArg₂ (· + ·) (congrArg o (congrArg₂ ix2 (Fin.ext (by simp only; omega)) (Fin.ext (by simp only; omega))))
        (congrArg o (congrArg₂ ix2 (Fin.ext (by simp only; omega)) (Fin.ext (by simp only; omega)))))

theorem sixteen (v : EReal) : ∀ (g : Fin 16) (q : Fin 4), (((if 4 * 0 + (q.val + 0) % 4 = g.val then v else 0) + (if 4 * 1 + (q.val + 0) % 4 = g.val then v else 0) + (if 4 * 2 + (q.val + 0) % 4 = g.val then v else 0) + (if 4 * 3 + (q.val + 0) % 4 = g.val then v else 0)) + ((if 4 * 0 + (q.val + 2) % 4 = g.val then v else 0) + (if 4 * 1 + (q.val + 2) % 4 = g.val then v else 0) + (if 4 * 2 + (q.val + 2) % 4 = g.val then v else 0) + (if 4 * 3 + (q.val + 2) % 4 = g.val then v else 0)) + (((if 4 * 0 + (q.val + 3) % 4 = g.val then v else 0) + (if 4 * 1 + (q.val + 3) % 4 = g.val then v else 0) + (if 4 * 2 + (q.val + 3) % 4 = g.val then v else 0) + (if 4 * 3 + (q.val + 3) % 4 = g.val then v else 0)) + ((if 4 * 0 + (q.val + 1) % 4 = g.val then v else 0) + (if 4 * 1 + (q.val + 1) % 4 = g.val then v else 0) + (if 4 * 2 + (q.val + 1) % 4 = g.val then v else 0) + (if 4 * 3 + (q.val + 1) % 4 = g.val then v else 0)))) = v := by
  intro g q
  fin_cases q <;> fin_cases g <;> simp

/-- Sixteen masked lanes, one of them the query's own. -/
theorem compact (p : FVec Ideal S16x512 .f32) (g : Fin 16) (l : Fin 128) (h : ∀ i : Fin 512, i.val / 32 ≠ g.val → p (ix2 g i) = 0) :
    ((p (ix2 g ⟨l.val, by omega⟩) + p (ix2 g ⟨128 + l.val, by omega⟩) + p (ix2 g ⟨256 + l.val, by omega⟩) + p (ix2 g ⟨384 + l.val, by omega⟩)) + (p (ix2 g ⟨(l.val + 128 - 64) % 128, by omega⟩) + p (ix2 g ⟨128 + (l.val + 128 - 64) % 128, by omega⟩) + p (ix2 g ⟨256 + (l.val + 128 - 64) % 128, by omega⟩) + p (ix2 g ⟨384 + (l.val + 128 - 64) % 128, by omega⟩)) + ((p (ix2 g ⟨(l.val + 128 - 32) % 128, by omega⟩) + p (ix2 g ⟨128 + (l.val + 128 - 32) % 128, by omega⟩) + p (ix2 g ⟨256 + (l.val + 128 - 32) % 128, by omega⟩) + p (ix2 g ⟨384 + (l.val + 128 - 32) % 128, by omega⟩)) + (p (ix2 g ⟨((l.val + 128 - 32) % 128 + 128 - 64) % 128, by omega⟩) + p (ix2 g ⟨128 + ((l.val + 128 - 32) % 128 + 128 - 64) % 128, by omega⟩) + p (ix2 g ⟨256 + ((l.val + 128 - 32) % 128 + 128 - 64) % 128, by omega⟩) + p (ix2 g ⟨384 + ((l.val + 128 - 32) % 128 + 128 - 64) % 128, by omega⟩))))
      = p (ix2 g (lane g ⟨l.val % 32, Nat.mod_lt _ (by decide)⟩)) := by
  have term : ∀ (n m : Nat) (hn : n < 512) (e : n / 32 = m) (e' : n % 32 = l.val % 32),
      p (ix2 g ⟨n, hn⟩) = if m = g.val then p (ix2 g (lane g ⟨l.val % 32, Nat.mod_lt _ (by decide)⟩)) else 0 := by
    intro n m hn e e'
    split_ifs with hm
    · exact congrArg p (congrArg₂ ix2 rfl (Fin.ext (by show n = 32 * g.val + l.val % 32; omega)))
    · exact h ⟨n, hn⟩ (by simp only; omega)
  refine Eq.trans ?_ (sixteen _ g ⟨l.val / 32, by omega⟩)
  exact congrArg₂ (· + ·) (congrArg₂ (· + ·) (congrArg₂ (· + ·) (congrArg₂ (· + ·) (congrArg₂ (· + ·) (term _ _ _ (by simp only; omega) (by omega)) (term _ _ _ (by simp only; omega) (by omega))) (term _ _ _ (by simp only; omega) (by omega))) (term _ _ _ (by simp only; omega) (by omega))) (congrArg₂ (· + ·) (congrArg₂ (· + ·) (congrArg₂ (· + ·) (term _ _ _ (by simp only; omega) (by omega)) (term _ _ _ (by simp only; omega) (by omega))) (term _ _ _ (by simp only; omega) (by omega))) (term _ _ _ (by simp only; omega) (by omega)))) (congrArg₂ (· + ·) (congrArg₂ (· + ·) (congrArg₂ (· + ·) (congrArg₂ (· + ·) (term _ _ _ (by simp only; omega) (by omega)) (term _ _ _ (by simp only; omega) (by omega))) (term _ _ _ (by simp only; omega) (by omega))) (term _ _ _ (by simp only; omega) (by omega))) (congrArg₂ (· + ·) (congrArg₂ (· + ·) (congrArg₂ (· + ·) (term _ _ _ (by simp only; omega) (by omega)) (term _ _ _ (by simp only; omega) (by omega))) (term _ _ _ (by simp only; omega) (by omega))) (term _ _ _ (by simp only; omega) (by omega))))

theorem lt32_apply : ∀ l : Fin 128, IntOp.cmpi .slt (BitVec.ofNat 32 l.val) 32#32 = if l.val < 32 then 1#1 else 0#1 := by decide

theorem pay266_apply (p0 p1 : FVec Ideal S16x512 .f32) (g : Fin 16) (l : Fin 128)
    (h0 : ∀ i : Fin 512, i.val / 32 ≠ g.val → p0 (ix2 g i) = 0) (h1 : ∀ i : Fin 512, i.val / 32 ≠ g.val → p1 (ix2 g i) = 0) :
    k0_pay266 (F := Ideal) (iota .tc S16x128 32 [1] iota_S16x128_d1_w32) p0 p1 (ix2 g l)
      = if l.val < 32 then p0 (ix2 g (lane g ⟨l.val % 32, Nat.mod_lt _ (by decide)⟩)) else p1 (ix2 g (lane g ⟨l.val % 32, Nat.mod_lt _ (by decide)⟩)) := by
  pointwise [k0_pay266]
  rw [lt32_apply, select_if]
  split_ifs
  · exact compact p0 g l h0
  · exact compact p1 g l h1

end Cert.KernelIdeal.Attend

end
-- ==== Proof.Tail.lean ====
/- The two rows a trip stores for query `g`: its pooled value and its attention weights, as the plain attention of that
   query's vector, keys and scales. -/
module

public import proofs.«01_k».proof.Proof.Rows

@[expose] public section

set_option maxRecDepth 16384

noncomputable section

namespace Cert.KernelIdeal.Attend

open Cert.KernelIdeal Cert.KernelIdeal.Gen Cert.Attention
open Idealize.ShloMosaic Idealize.ShloMosaic.TcCoe Idealize.SL.Sem

section tail

variable (D : FVec Ideal S32x512 .f32) (c0 c1 : FVec Ideal S1x512 .f32) (A : FVec Ideal S16x512 .f32) (K : FVec Ideal S512x512 .bf16)
  (g : Fin 16) (x : Fin 256 → EReal) (kc : Fin 64 → Fin 256 → EReal) (s : Fin 64 → EReal)

/-- The query's own lanes hold its scores, before the common factor. -/
def Scored : Prop := (∀ r, A (ix2 g (lane g r)) * kappa = score x kc s (keyIx 0 r))
  ∧ (∀ r, D (ix2 (row 1 g) (lane g r)) * c1 (ix2 0 (lane g r)) * kappa = score x kc s (keyIx 1 r))

variable (h : Scored D c1 A g x kc s) (hr : Real' x kc s)

theorem lane_div (r : Fin 32) : (lane g r).val / 32 = g.val := by show (32 * g.val + r.val) / 32 = _; omega

include h

theorem top_eq : k0_pay254 (F := Ideal) k0_pay2 D c1 A (ix2 g 0) = top x kc s := by
  rw [pay254_apply]
  refine max_lanes g (score x kc s) ![fun i => k0_pay252 (F := Ideal) k0_pay2 A (ix2 g i), fun i => k0_pay253 (F := Ideal) k0_pay2 D c1 (ix2 g i)] ?_ ?_
  · intro p r
    fin_cases p
    · show k0_pay252 (F := Ideal) k0_pay2 A (ix2 g (lane g r)) = _
      rw [pay252_apply, if_pos (lane_div g r), h.1]; rfl
    · show k0_pay253 (F := Ideal) k0_pay2 D c1 (ix2 g (lane g r)) = _
      rw [pay253_apply, if_pos (lane_div g r), h.2]; rfl
  · intro p i hi
    fin_cases p
    · show k0_pay252 (F := Ideal) k0_pay2 A (ix2 g i) = _
      rw [pay252_apply, if_neg hi]
    · show k0_pay253 (F := Ideal) k0_pay2 D c1 (ix2 g i) = _
      rw [pay253_apply, if_neg hi]

theorem exp0 (r : Fin 32) : k0_pay255 (F := Ideal) k0_pay2 D c1 A (ix2 g (lane g r)) = Ideal.exp (score x kc s (keyIx 0 r) - top x kc s) := by
  rw [pay255_apply, top_eq D c1 A g x kc s h, pay252_apply, if_pos (lane_div g r), h.1]

theorem exp1 (r : Fin 32) : k0_pay256 (F := Ideal) k0_pay2 D c1 A (ix2 g (lane g r)) = Ideal.exp (score x kc s (keyIx 1 r) - top x kc s) := by
  rw [pay256_apply, top_eq D c1 A g x kc s h, pay253_apply, if_pos (lane_div g r), h.2]

omit h in
theorem exp0_idle (i : Fin 512) (hi : i.val / 32 ≠ g.val) : k0_pay255 (F := Ideal) k0_pay2 D c1 A (ix2 g i) = 0 := by
  rw [pay255_apply, pay252_apply, if_neg hi, exp_bot_sub]

omit h in
theorem exp1_idle (i : Fin 512) (hi : i.val / 32 ≠ g.val) : k0_pay256 (F := Ideal) k0_pay2 D c1 A (ix2 g i) = 0 := by
  rw [pay256_apply, pay253_apply, if_neg hi, exp_bot_sub]

theorem den_eq : k0_pay257 (F := Ideal) k0_pay2 D c1 A (ix2 g 0) = den x kc s := by
  rw [pay257_apply, sum_lanes g _ (exp0_idle D c1 A g), sum_lanes g _ (exp1_idle D c1 A g), den, sum_keys]
  exact congrArg₂ (· + ·) (Finset.sum_congr rfl fun r _ => exp0 D c1 A g x kc s h r) (Finset.sum_congr rfl fun r _ => exp1 D c1 A g x kc s h r)

theorem attn0 (r : Fin 32) : k0_pay258 (F := Ideal) k0_pay2 D c1 A (ix2 g (lane g r)) = attn x kc s (keyIx 0 r) := by
  rw [pay258_apply, den_eq D c1 A g x kc s h, exp0 D c1 A g x kc s h]; rfl

theorem attn1 (r : Fin 32) : k0_pay259 (F := Ideal) k0_pay2 D c1 A (ix2 g (lane g r)) = attn x kc s (keyIx 1 r) := by
  rw [pay259_apply, den_eq D c1 A g x kc s h, exp1 D c1 A g x kc s h]; rfl

include hr

theorem attn0_idle (i : Fin 512) (hi : i.val / 32 ≠ g.val) : k0_pay258 (F := Ideal) k0_pay2 D c1 A (ix2 g i) = 0 := by
  rw [pay258_apply, den_eq D c1 A g x kc s h, exp0_idle D c1 A g i hi, zero_div (den_ne_zero x kc s hr)]

theorem attn1_idle (i : Fin 512) (hi : i.val / 32 ≠ g.val) : k0_pay259 (F := Ideal) k0_pay2 D c1 A (ix2 g i) = 0 := by
  rw [pay259_apply, den_eq D c1 A g x kc s h, exp1_idle D c1 A g i hi, zero_div (den_ne_zero x kc s hr)]

/-- The stored attention weights: the keys of parity 0, then those of parity 1. -/
theorem attn_row (l : Fin 128) (hl : l.val < 64) :
    k0_pay266 (F := Ideal) (iota .tc S16x128 32 [1] iota_S16x128_d1_w32) (k0_pay258 k0_pay2 D c1 A) (k0_pay259 k0_pay2 D c1 A) (ix2 g l)
      = attn x kc s ⟨l.val, hl⟩ := by
  rw [pay266_apply _ _ g l (attn0_idle D c1 A g x kc s h hr) (attn1_idle D c1 A g x kc s h hr)]
  split_ifs with h32
  · rw [attn0 D c1 A g x kc s h]; exact congrArg (attn x kc s) (Fin.ext (by show 32 * 0 + l.val % 32 = l.val; omega))
  · rw [attn1 D c1 A g x kc s h]; exact congrArg (attn x kc s) (Fin.ext (by show 32 * 1 + l.val % 32 = l.val; omega))

/-- The stored pooled row. -/
theorem pooled_row (h0 : ∀ r, c0 (ix2 0 (lane g r)) = s (keyIx 0 r)) (h1 : ∀ r, c1 (ix2 0 (lane g r)) = s (keyIx 1 r))
    (hk : ∀ p r d, K (ix2 (lane g r) (column p d)) = kc (keyIx p r) d) (d : Fin 256) :
    k0_pay265 (F := Ideal) k0_pay1 (k0_pay260 k0_pay2 K D c0 c1 A) (k0_pay261 k0_pay2 K D c0 c1 A) (k0_pay262 k0_pay2 K D c0 c1 A)
      (k0_pay263 k0_pay2 K D c0 c1 A) (k0_pay264 k0_pay2 K D c0 c1 A) 64#32 (ix2 g d) = pooled x kc s d := by
  rw [pay265_apply, pay260_0, pay260_1, pooled, sum_keys]
  refine congrArg₂ (· + ·) ?_ ?_
  · rw [sum_lanes g _ fun i hi => by rw [attn0_idle D c1 A g x kc s h hr i hi, zero_mul, zero_mul]]
    exact Finset.sum_congr rfl fun r _ => by rw [attn0 D c1 A g x kc s h, h0, hk]
  · rw [sum_lanes g _ fun i hi => by rw [attn1_idle D c1 A g x kc s h hr i hi, zero_mul, zero_mul]]
    exact Finset.sum_congr rfl fun r _ => by rw [attn1 D c1 A g x kc s h, h1, hk]

end tail

end Cert.KernelIdeal.Attend

end
-- ==== Proof.Block.lean ====
/- What a grid step writes, element by element: row `q` of the pooled block and column `q` of the block of attention weights
   are the plain attention of query `q` of the step's 128. -/
module

public import proofs.«01_k».proof.Proof.Tail
public import proofs.«01_k».proof.Proof.Body

@[expose] public section

set_option maxRecDepth 16384

noncomputable section

namespace Cert.KernelIdeal.Attend

open Cert.KernelIdeal Cert.KernelIdeal.Gen Cert.Attention
open Idealize.ShloMosaic Idealize.ShloMosaic.TcCoe Idealize.SL.Sem

variable (x : Vec Ideal S128x256 .bf16) (W : Vec Ideal S4096x128 .i32) (sc : Vec Ideal S2x32x128 .f32)

/-- Query `q`'s vector. -/
def qx (q : Fin 128) (d : Fin 256) : EReal := x (ix2 q d)

/-- Query `q`'s keys. -/
def qk (q : Fin 128) (j : Fin 64) (d : Fin 256) : EReal :=
  codeVal (byteOf (W (ix2 ⟨32 * q.val + 8 * (j.val % 4) + j.val % 32 / 4, by omega⟩ ⟨64 * (j.val / 32) + d.val % 64, by omega⟩)) (byteIx ⟨d.val / 64, by omega⟩))

/-- Query `q`'s scales. -/
def qs (q : Fin 128) (j : Fin 64) : EReal :=
  sc (ix3 ⟨j.val / 32, by omega⟩ ⟨q.val / 4, by omega⟩ ⟨32 * (q.val % 4) + j.val % 32, by omega⟩)

/-- Query `g` of trip `k`. -/
def query (k : Fin k0_t1_loop.trips) (g : Fin 16) : Fin 128 := ⟨16 * k.val + g.val, by have := trip_lt k; omega⟩

theorem off3_eq : ∀ k : Fin k0_t1_loop.trips, k0_off3 k = ![0, 4 * k.val, 0] := by decide +kernel
theorem off4_eq : ∀ k : Fin k0_t1_loop.trips, k0_off4 k = ![1, 4 * k.val, 0] := by decide +kernel

theorem pay249_apply (v : Vec Ideal S1x4x128 .f32) (i : Fin 512) :
    k0_pay249 (F := Ideal) v (ix2 0 i) = v (ix3 0 ⟨i.val / 128, by omega⟩ ⟨i.val % 128, Nat.mod_lt _ (by decide)⟩) := by
  pointwise [k0_pay249]
  split_ifs <;> exact congrArg v (congrArg₂ (ix3 0) (Fin.ext (by first | (show (0 : ℕ) = i.val / 128; omega) | (show (1 : ℕ) = i.val / 128; omega) | (show (2 : ℕ) = i.val / 128; omega) | (show (3 : ℕ) = i.val / 128; omega)))
    (Fin.ext (by simp only; omega)))

theorem pay250_apply (v : Vec Ideal S1x4x128 .f32) (i : Fin 512) :
    k0_pay250 (F := Ideal) v (ix2 0 i) = v (ix3 0 ⟨i.val / 128, by omega⟩ ⟨i.val % 128, Nat.mod_lt _ (by decide)⟩) := by
  pointwise [k0_pay250]
  split_ifs <;> exact congrArg v (congrArg₂ (ix3 0) (Fin.ext (by first | (show (0 : ℕ) = i.val / 128; omega) | (show (1 : ℕ) = i.val / 128; omega) | (show (2 : ℕ) = i.val / 128; omega) | (show (3 : ℕ) = i.val / 128; omega)))
    (Fin.ext (by simp only; omega)))

theorem scale0_apply (k : Fin k0_t1_loop.trips) (g : Fin 16) (r : Fin 32) : scale0 (F := Ideal) sc k (ix2 0 (lane g r)) = qs sc (query k g) (keyIx 0 r) := by
  unfold scale0
  rw [pay249_apply]
  pointwise
  refine congrArg sc ?_
  funext a
  match a with
  | 0 => apply Fin.ext; show k0_off3 k 0 + 1 * 0 = (32 * 0 + r.val) / 32; rw [off3_eq]; show 0 + 1 * 0 = _; omega
  | 1 => apply Fin.ext; show k0_off3 k 1 + ((32 * g.val + r.val) / 128) = (16 * k.val + g.val) / 4; rw [off3_eq]; show 4 * k.val + _ = _; omega
  | 2 => apply Fin.ext; show k0_off3 k 2 + ((32 * g.val + r.val) % 128) = 32 * ((16 * k.val + g.val) % 4) + (32 * 0 + r.val) % 32; rw [off3_eq]; show 0 + _ = _; omega

theorem scale1_apply (k : Fin k0_t1_loop.trips) (g : Fin 16) (r : Fin 32) : scale1 (F := Ideal) sc k (ix2 0 (lane g r)) = qs sc (query k g) (keyIx 1 r) := by
  unfold scale1
  rw [pay250_apply]
  pointwise
  refine congrArg sc ?_
  funext a
  match a with
  | 0 => apply Fin.ext; show k0_off4 k 0 + 1 * 0 = (32 * 1 + r.val) / 32; rw [off4_eq]; show 1 + 1 * 0 = _; omega
  | 1 => apply Fin.ext; show k0_off4 k 1 + ((32 * g.val + r.val) / 128) = (16 * k.val + g.val) / 4; rw [off4_eq]; show 4 * k.val + _ = _; omega
  | 2 => apply Fin.ext; show k0_off4 k 2 + ((32 * g.val + r.val) % 128) = 32 * ((16 * k.val + g.val) % 4) + (32 * 1 + r.val) % 32; rw [off4_eq]; show 0 + _ = _; omega

theorem key_apply (k : Fin k0_t1_loop.trips) (g : Fin 16) (p : Fin 2) (r : Fin 32) (d : Fin 256) :
    keys W k (ix2 (lane g r) (column p d)) = qk W (query k g) (keyIx p r) d := by
  rw [keys_apply]
  unfold qk
  have hb := (byteIx ⟨d.val / 64, by omega⟩).isLt
  have e1 : (⟨(column p d).val / 128, by omega⟩ : Fin 4) = byteIx ⟨d.val / 64, by omega⟩ :=
    Fin.ext (by show (128 * (byteIx ⟨d.val / 64, by omega⟩).val + 64 * p.val + d.val % 64) / 128 = _; omega)
  rw [e1]
  refine congrArg (fun w => codeVal (byteOf (W w) _)) (congrArg₂ ix2 (Fin.ext ?_) (Fin.ext ?_))
  · show 512 * k.val + 32 * g.val + 8 * (r.val % 4) + r.val / 4 = 32 * (16 * k.val + g.val) + 8 * ((32 * p.val + r.val) % 4) + (32 * p.val + r.val) % 32 / 4
    omega
  · show (128 * (byteIx ⟨d.val / 64, by omega⟩).val + 64 * p.val + d.val % 64) % 128 = 64 * ((32 * p.val + r.val) / 32) + d.val % 64
    omega

theorem x_apply (k : Fin k0_t1_loop.trips) (g : Fin 16) (d : Fin 256) :
    View.ld x (Rect.unit (s := S128x256) (k0_off2 k) S16x256.size (k0_off2_inb k)) (ix2 g d) = qx x (query k g) d := by
  pointwise
  refine congrArg x ?_
  funext a
  match a with
  | 0 => apply Fin.ext; show k0_off2 k 0 + g.val = _; rw [off2_eq]; show 16 * k.val + g.val = 16 * k.val + g.val; omega
  | 1 => apply Fin.ext; show k0_off2 k 1 + d.val = _; rw [off2_eq]; show 0 + d.val = d.val; omega

theorem scored (k : Fin k0_t1_loop.trips) (g : Fin 16) :
    Scored (dots (F := Ideal) x W k) (scale1 (F := Ideal) sc k) (scaled0 (F := Ideal) x W sc k) g (qx x (query k g)) (qk W (query k g)) (qs sc (query k g)) := by
  constructor <;> intro r
  · have e : scaled0 (F := Ideal) x W sc k (ix2 g (lane g r)) = dots (F := Ideal) x W k (ix2 (row 0 g) (lane g r)) * scale0 (F := Ideal) sc k (ix2 0 (lane g r)) := by
      unfold scaled0
      pointwise [k0_pay251]
      refine congrArg₂ (· * ·) (congrArg (k0_pay248 (F := Ideal) _ _ _) (congrArg₂ ix2 (Fin.ext ?_) rfl)) rfl
      simp [row]
    rw [e, scale0_apply, score, dots, pay248_0]
    refine congrArg (· * _ * _) (Finset.sum_congr rfl fun d _ => ?_)
    rw [x_apply, key_apply]
  · rw [scale1_apply, score, dots, pay248_1]
    refine congrArg (· * _ * _) (Finset.sum_congr rfl fun d _ => ?_)
    rw [x_apply, key_apply]

theorem query_trip (q : Fin 128) : query (trip q) ⟨q.val % 16, Nat.mod_lt _ (by decide)⟩ = q :=
  Fin.ext (by show 16 * (q.val / 16) + q.val % 16 = q.val; omega)

theorem pooledBlock_apply (q : Fin 128) (d : Fin 256) (hr : Real' (qx x q) (qk W q) (qs sc q)) :
    pooledBlock (F := Ideal) x W sc (ix2 q d) = pooled (qx x q) (qk W q) (qs sc q) d := by
  have e := query_trip q
  have h := scored x W sc (trip q) ⟨q.val % 16, Nat.mod_lt _ (by decide)⟩
  have h0 := scale0_apply sc (trip q) ⟨q.val % 16, Nat.mod_lt _ (by decide)⟩
  have h1 := scale1_apply sc (trip q) ⟨q.val % 16, Nat.mod_lt _ (by decide)⟩
  have hk := key_apply W (trip q) ⟨q.val % 16, Nat.mod_lt _ (by decide)⟩
  rw [e] at h h0 h1 hk
  exact pooled_row _ _ _ _ _ _ _ _ _ h hr h0 h1 hk d

theorem attnBlock_apply (q : Fin 128) (j : Fin 64) (hr : Real' (qx x q) (qk W q) (qs sc q)) :
    attnBlock (F := Ideal) x W sc (ix2 j q) = attn (qx x q) (qk W q) (qs sc q) j := by
  have e := query_trip q
  have h := scored x W sc (trip q) ⟨q.val % 16, Nat.mod_lt _ (by decide)⟩
  rw [e] at h
  have h2 : attnBlock (F := Ideal) x W sc (ix2 j q) = attnScratch (F := Ideal) x W sc (ix2 q ⟨j.val, by omega⟩) := by
    unfold attnBlock
    pointwise [k0_pay3]
  rw [h2]
  exact attn_row _ _ _ _ _ _ _ h hr ⟨j.val, by omega⟩ j.isLt

end Cert.KernelIdeal.Attend

end
-- ==== Proof.Spec.lean ====
/- The attention of query `b` read off the three argument arrays: its vector, the values of its 64 gathered keys' codes, and
   the keys' scales. Key `32 p + 4 u + v` of query `b` lies in row `64 b + 16 v + 2 u + p` of the gathered rows. -/
module

public import proofs.«01_k».proof.Proof.Softmax

@[expose] public section

noncomputable section

namespace Cert.Attention

open Idealize.ShloMosaic

variable (X : (⟨2, ![4096, 256]⟩ : Shape).Idx → EReal) (R : (⟨2, ![262144, 64]⟩ : Shape).Idx → BitVec 32) (C : (⟨1, ![262144]⟩ : Shape).Idx → EReal)

def ax (b : Fin 4096) (d : Fin 256) : EReal := X (ix2 b d)

/-- The row in which key `j` of query `b` lies. -/
def rowOf (b : Fin 4096) (j : Fin 64) : Fin 262144 := ⟨64 * b.val + 16 * (j.val % 4) + 2 * (j.val % 32 / 4) + j.val / 32, by omega⟩

def ak (b : Fin 4096) (j : Fin 64) (d : Fin 256) : EReal :=
  codeVal (byteOf (R (ix2 (rowOf b j) ⟨d.val % 64, Nat.mod_lt _ (by decide)⟩)) (byteIx ⟨d.val / 64, by omega⟩))

def asc (b : Fin 4096) (j : Fin 64) : EReal := C (ix1 ⟨j.val / 32 * 131072 + 32 * b.val + j.val % 32, by omega⟩)

/-- Shifting a word right by whole bytes and keeping the low eight bits takes a byte. -/
theorem shift_byte (w : BitVec 32) (c : Fin 4) :
    (IntOp.andi (IntOp.shrsi .host w (BitVec.ofNat 32 (8 * c.val))) 255#32).setWidth 8 = byteOf w c := by
  apply BitVec.eq_of_getLsbD_eq
  intro j hj
  fin_cases c <;> interval_cases j <;>
    simp [byteOf, IntOp.andi, IntOp.shrsi, BitVec.getLsbD_sshiftRight, BitVec.getElem_sshiftRight, BitVec.getLsbD_extractLsb', BitVec.getLsbD_ofNat]

/-- Shifting a word right by whole bytes and keeping the low seven bits takes a byte without its sign. -/
theorem shift_byte7 (w : BitVec 32) (c : Fin 4) :
    IntOp.andi (IntOp.shrsi .host w (BitVec.ofNat 32 (8 * c.val))) 127#32 = (byteOf w c &&& 127#8).setWidth 32 := by
  apply BitVec.eq_of_getLsbD_eq
  intro j hj
  fin_cases c <;> interval_cases j <;>
    simp [byteOf, IntOp.andi, IntOp.shrsi, BitVec.getLsbD_sshiftRight, BitVec.getElem_sshiftRight, BitVec.getLsbD_extractLsb', BitVec.getLsbD_ofNat]

theorem nan_bits : ∀ b : BitVec 8, (b.extractLsb' 3 4).toNat = 15 ∧ (b.extractLsb' 0 3).toNat = 7 → b &&& 127#8 = 127#8 := by decide +kernel

/-- A byte whose seven low bits are not all ones has a real value. -/
theorem codeVal_real (b : BitVec 8) (h : b &&& 127#8 ≠ 127#8) : ∃ r : ℝ, codeVal b = (r : EReal) := by
  show ∃ r : ℝ, Ideal.e4m3fn b = (r : EReal)
  unfold Ideal.e4m3fn
  rw [if_neg fun e => h (nan_bits b e)]
  split_ifs <;> exact ⟨_, rfl⟩

theorem kappa_real : ∃ r : ℝ, kappa = (r : EReal) := by
  show ∃ r : ℝ, Ideal.ieee 8 23 0x3D800000#32 = (r : EReal)
  unfold Ideal.ieee
  rw [if_neg (by decide), if_neg (by decide)]
  exact ⟨_, rfl⟩

theorem sum_real {n : ℕ} (f : Fin n → EReal) (h : ∀ i, ∃ r : ℝ, f i = (r : EReal)) : ∃ r : ℝ, ∑ i, f i = (r : EReal) := by
  exact Finset.sum_induction f (fun a => ∃ r : ℝ, a = (r : EReal)) (by rintro _ _ ⟨r, rfl⟩ ⟨t, rfl⟩; exact ⟨r + t, (EReal.coe_add r t).symm⟩)
    ⟨0, rfl⟩ fun i _ => h i

theorem mul_real {a b : EReal} (ha : ∃ r : ℝ, a = (r : EReal)) (hb : ∃ r : ℝ, b = (r : EReal)) : ∃ r : ℝ, a * b = (r : EReal) := by
  obtain ⟨r, rfl⟩ := ha
  obtain ⟨t, rfl⟩ := hb
  exact ⟨r * t, (EReal.coe_mul r t).symm⟩

/-- Over real vectors, key values and scales every score is real. -/
theorem score_real (x : Fin 256 → EReal) (kc : Fin 64 → Fin 256 → EReal) (s : Fin 64 → EReal) (hx : ∀ d, ∃ r : ℝ, x d = (r : EReal))
    (hk : ∀ j d, ∃ r : ℝ, kc j d = (r : EReal)) (hs : ∀ j, ∃ r : ℝ, s j = (r : EReal)) : Real' x kc s :=
  fun j => mul_real (mul_real (sum_real _ fun d => mul_real (hx d) (hk j d)) (hs j)) kappa_real

end Cert.Attention

end
-- ==== Proof.KernelRun.lean ====
/- The attention kernel's run: grid step `t` writes rows `128 t ..` of the pooled values and columns `128 t ..` of the attention
   weights, so over real scores both results are the plain attention of every query over the argument arrays. -/
module

public import proofs.«01_k».proof.Proof.Block
public import proofs.«01_k».proof.Proof.Spec
public import Idealize.ShloMosaic.Lib.StableHlo.ReadAt
public import Idealize.ShloMosaic.Lib.Pipeline.Value

@[expose] public section

set_option maxRecDepth 16384

noncomputable section

namespace Cert.KernelIdeal.Attend

open Cert.KernelIdeal Cert.KernelIdeal.Gen Cert.Attention
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The pooled values of every query. -/
def pooledArr (c : Dev nD) : Buf (Elt Ideal) ((c : Thread nD τ).loc main_v2_0) := fun y : S4096x256.Idx =>
  pooled (ax (m ((c : Thread nD τ).loc main_arg0)) (y 0)) (ak (m ((c : Thread nD τ).loc main_arg1)) (y 0)) (asc (m ((c : Thread nD τ).loc main_arg2)) (y 0)) (y 1)

/-- The attention weights of every query. -/
def attnArr (c : Dev nD) : Buf (Elt Ideal) ((c : Thread nD τ).loc main_v2_1) := fun y : S64x4096.Idx =>
  attn (ax (m ((c : Thread nD τ).loc main_arg0)) (y 1)) (ak (m ((c : Thread nD τ).loc main_arg1)) (y 1)) (asc (m ((c : Thread nD τ).loc main_arg2)) (y 1)) (y 0)

/-- Every score of every query is real. -/
def RealScores : Prop := ∀ (c : Dev nD) (b : Fin 4096),
  Real' (ax (m ((c : Thread nD τ).loc main_arg0)) b) (ak (m ((c : Thread nD τ).loc main_arg1)) b) (asc (m ((c : Thread nD τ).loc main_arg2)) b)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, t.val, 0] := (by decide +kernel : ∀ t : Fin grid0.N, win0_2.index t = ![0, t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![0, t.val] := (by decide +kernel : ∀ t : Fin grid0.N, win0_4.index t = ![0, t.val])

theorem t_lt (t : Fin cfg0.N) : t.val < 32 := by have := t.isLt; have h : cfg0.N = 32 := N_0; omega

/-- Query `q` of grid step `t`. -/
def at' (t : Fin cfg0.N) (q : Fin 128) : Fin 4096 := ⟨128 * t.val + q.val, by have := t_lt t; omega⟩

theorem V0_apply (c : Dev nD) (r : Fin 131072) (l : Fin 128) : (V m c main_v0 : Vec Ideal S131072x128 .i32) (ix2 r l)
    = m ((c : Thread nD τ).loc main_arg1) (ix2 ⟨2 * r.val + l.val / 64, by omega⟩ ⟨l.val % 64, Nat.mod_lt _ (by decide)⟩) := by
  unfold V
  after_reads_at
  exact congrArg (m ((c : Thread nD τ).loc main_arg1)) (congrArg₂ ix2 (Fin.ext (by simp only; omega)) rfl)

theorem V1_apply (c : Dev nD) (p : Fin 2) (r : Fin 1024) (l : Fin 128) : (V m c main_v1 : Vec Ideal S2x1024x128 .f32) (ix3 p r l)
    = m ((c : Thread nD τ).loc main_arg2) (ix1 ⟨131072 * p.val + 128 * r.val + l.val, by omega⟩) := by
  unfold V
  after_reads_at
  exact congrArg (m ((c : Thread nD τ).loc main_arg2)) (congrArg ix1 (Fin.ext (by simp only; omega)))

theorem blk0 (c : Dev nD) (t : Fin cfg0.N) (q : Fin 128) : qx (iblk m c 0 t) q = ax (m ((c : Thread nD τ).loc main_arg0)) (at' t q) := by
  funext d
  show iblk m c 0 t (ix2 q d) = m ((c : Thread nD τ).loc main_arg0) (ix2 (at' t q) d)
  rw [← V_main_arg0 m c]
  unfold iblk
  show V m c main_arg0 (((cfg0.win 0).blk t).view.emb (ix2 q d)) = _
  refine congrArg (V m c main_arg0) (funext fun a => Fin.ext ?_)
  match a with
  | 0 => show win0_0.index t 0 * 128 + 1 * q.val = 128 * t.val + q.val; rw [idx0]; show t.val * 128 + 1 * q.val = _; omega
  | 1 => show win0_0.index t 1 * 256 + 1 * d.val = d.val; rw [idx0]; show 0 * 256 + 1 * d.val = d.val; omega

theorem iblk1_apply (c : Dev nD) (t : Fin cfg0.N) (r : Fin 4096) (l : Fin 128) : (iblk m c 1 t : Vec Ideal S4096x128 .i32) (ix2 r l)
    = m ((c : Thread nD τ).loc main_arg1) (ix2 ⟨2 * (4096 * t.val + r.val) + l.val / 64, by have := t_lt t; omega⟩ ⟨l.val % 64, Nat.mod_lt _ (by decide)⟩) := by
  refine Eq.trans ?_ (V0_apply m c ⟨4096 * t.val + r.val, by have := t_lt t; omega⟩ l)
  show (V m c main_v0 : Vec Ideal S131072x128 .i32) (((cfg0.win 1).blk t).view.emb (ix2 r l)) = _
  refine congrArg (V m c main_v0 : Vec Ideal S131072x128 .i32) (funext fun a => Fin.ext ?_)
  match a with
  | 0 => show win0_1.index t 0 * 4096 + 1 * r.val = 4096 * t.val + r.val; rw [idx1]; show t.val * 4096 + 1 * r.val = _; omega
  | 1 => show win0_1.index t 1 * 128 + 1 * l.val = l.val; rw [idx1]; show 0 * 128 + 1 * l.val = l.val; omega

theorem blk1 (c : Dev nD) (t : Fin cfg0.N) (q : Fin 128) : qk (iblk m c 1 t) q = ak (m ((c : Thread nD τ).loc main_arg1)) (at' t q) := by
  funext j d
  unfold qk ak
  rw [iblk1_apply]
  refine congrArg (fun i => codeVal (byteOf (m ((c : Thread nD τ).loc main_arg1) i) _)) (congrArg₂ ix2 (Fin.ext ?_) (Fin.ext ?_))
  · show 2 * (4096 * t.val + (32 * q.val + 8 * (j.val % 4) + j.val % 32 / 4)) + (64 * (j.val / 32) + d.val % 64) / 64
      = 64 * (128 * t.val + q.val) + 16 * (j.val % 4) + 2 * (j.val % 32 / 4) + j.val / 32
    omega
  · show (64 * (j.val / 32) + d.val % 64) % 64 = d.val % 64
    omega

theorem blk2 (c : Dev nD) (t : Fin cfg0.N) (q : Fin 128) : qs (iblk m c 2 t) q = asc (m ((c : Thread nD τ).loc main_arg2)) (at' t q) := by
  funext j
  have ht := t_lt t
  unfold qs asc
  refine Eq.trans ?_ ((V1_apply m c ⟨j.val / 32, by omega⟩ ⟨32 * t.val + q.val / 4, by omega⟩ ⟨32 * (q.val % 4) + j.val % 32, by omega⟩).trans ?_)
  · show (V m c main_v1 : Vec Ideal S2x1024x128 .f32) (((cfg0.win 2).blk t).view.emb (ix3 ⟨j.val / 32, by omega⟩ ⟨q.val / 4, by omega⟩ ⟨32 * (q.val % 4) + j.val % 32, by omega⟩)) = _
    refine congrArg (V m c main_v1 : Vec Ideal S2x1024x128 .f32) (funext fun a => Fin.ext ?_)
    match a with
    | 0 => show win0_2.index t 0 * 2 + 1 * (j.val / 32) = j.val / 32; rw [idx2]; show 0 * 2 + 1 * (j.val / 32) = _; omega
    | 1 => show win0_2.index t 1 * 32 + 1 * (q.val / 4) = 32 * t.val + q.val / 4; rw [idx2]; show t.val * 32 + 1 * (q.val / 4) = _; omega
    | 2 => show win0_2.index t 2 * 128 + 1 * (32 * (q.val % 4) + j.val % 32) = 32 * (q.val % 4) + j.val % 32; rw [idx2]; show 0 * 128 + 1 * (32 * (q.val % 4) + j.val % 32) = _; omega
  · refine congrArg (m ((c : Thread nD τ).loc main_arg2)) (congrArg ix1 (Fin.ext ?_))
    show 131072 * (j.val / 32) + 128 * (32 * t.val + q.val / 4) + (32 * (q.val % 4) + j.val % 32) = j.val / 32 * 131072 + 32 * (128 * t.val + q.val) + j.val % 32
    omega

theorem emb3 (t : Fin cfg0.N) (q : Fin 128) (d : Fin 256) : ((cfg0.win 3).blk t).view.emb (ix2 q d) = (ix2 (at' t q) d : S4096x256.Idx) := by
  funext a
  match a with
  | 0 => apply Fin.ext; show win0_3.index t 0 * 128 + 1 * q.val = 128 * t.val + q.val; rw [idx3]; show t.val * 128 + 1 * q.val = _; omega
  | 1 => apply Fin.ext; show win0_3.index t 1 * 256 + 1 * d.val = d.val; rw [idx3]; show 0 * 256 + 1 * d.val = d.val; omega

theorem emb4 (t : Fin cfg0.N) (j : Fin 64) (q : Fin 128) : ((cfg0.win 4).blk t).view.emb (ix2 j q) = (ix2 j (at' t q) : S64x4096.Idx) := by
  funext a
  match a with
  | 0 => apply Fin.ext; show win0_4.index t 0 * 64 + 1 * j.val = j.val; rw [idx4]; show 0 * 64 + 1 * j.val = j.val; omega
  | 1 => apply Fin.ext; show win0_4.index t 1 * 128 + 1 * q.val = 128 * t.val + q.val; rw [idx4]; show t.val * 128 + 1 * q.val = _; omega

variable (hreal : RealScores m)
include hreal

theorem real_block (c : Dev nD) (t : Fin cfg0.N) (q : Fin 128) : Real' (qx (iblk m c 0 t) q) (qk (iblk m c 1 t) q) (qs (iblk m c 2 t) q) := by
  rw [blk0, blk1, blk2]; exact hreal c (at' t q)

theorem flushed3 (c : Dev nD) (t : Fin cfg0.N) : (dats m 0 c).flushed 3 t = ((cfg0.win 3).blk t).view.read (Elt Ideal) (pooledArr m c) := by
  show (cfg0.win 3).cut (grid0.coords t) ((dats m 0 c).after 3 t) = _
  rw [after0_3]
  have key : ∀ y : S128x256.Idx, pooledBlock (F := Ideal) (iblk m c 0 t) (iblk m c 1 t) (iblk m c 2 t) y = pooledArr m c (((cfg0.win 3).blk t).view.emb y) := by
    intro y
    idx_vars y
    rw [emb3, pooledBlock_apply _ _ _ _ _ (real_block m hreal c t _), blk0, blk1, blk2]
    rfl
  exact funext key

theorem flushed4 (c : Dev nD) (t : Fin cfg0.N) : (dats m 0 c).flushed 4 t = ((cfg0.win 4).blk t).view.read (Elt Ideal) (attnArr m c) := by
  show (cfg0.win 4).cut (grid0.coords t) ((dats m 0 c).after 4 t) = _
  rw [after0_4]
  have key : ∀ y : S64x128.Idx, attnBlock (F := Ideal) (iblk m c 0 t) (iblk m c 1 t) (iblk m c 2 t) y = attnArr m c (((cfg0.win 4).blk t).view.emb y) := by
    intro y
    idx_vars y
    rw [emb4, attnBlock_apply _ _ _ _ _ (real_block m hreal c t _), blk0, blk1, blk2]
    rfl
  exact funext key

omit hreal in
theorem cover3 (i : S4096x256.Idx) : ∃ t : Fin cfg0.N, (cfg0.win 3).flush t = true ∧ i ∈ ((cfg0.win 3).blk t).view.set := by
  have hN : cfg0.N = 32 := N_0
  have h0 : (i 0).val < 4096 := (i 0).isLt
  have ht : (i 0).val / 128 < cfg0.N := by omega
  refine ⟨⟨(i 0).val / 128, ht⟩, flush0_3 _, ?_⟩
  have h := emb3 ⟨(i 0).val / 128, ht⟩ ⟨(i 0).val % 128, Nat.mod_lt _ (by decide)⟩ (i 1)
  have hi : i = (ix2 (at' ⟨(i 0).val / 128, ht⟩ ⟨(i 0).val % 128, Nat.mod_lt _ (by decide)⟩) (i 1) : S4096x256.Idx) := by
    funext a
    match a with
    | 0 => apply Fin.ext; show (i 0).val = 128 * ((i 0).val / 128) + (i 0).val % 128; omega
    | 1 => rfl
  have hm := View.emb_mem_set ((cfg0.win 3).blk ⟨(i 0).val / 128, ht⟩).view (ix2 ⟨(i 0).val % 128, Nat.mod_lt _ (by decide)⟩ (i 1))
  rw [h.trans hi.symm] at hm
  exact hm

omit hreal in
theorem cover4 (i : S64x4096.Idx) : ∃ t : Fin cfg0.N, (cfg0.win 4).flush t = true ∧ i ∈ ((cfg0.win 4).blk t).view.set := by
  have hN : cfg0.N = 32 := N_0
  have h0 : (i 1).val < 4096 := (i 1).isLt
  have ht : (i 1).val / 128 < cfg0.N := by omega
  refine ⟨⟨(i 1).val / 128, ht⟩, flush0_4 _, ?_⟩
  have h := emb4 ⟨(i 1).val / 128, ht⟩ (i 0) ⟨(i 1).val % 128, Nat.mod_lt _ (by decide)⟩
  have hi : i = (ix2 (i 0) (at' ⟨(i 1).val / 128, ht⟩ ⟨(i 1).val % 128, Nat.mod_lt _ (by decide)⟩) : S64x4096.Idx) := by
    funext a
    match a with
    | 0 => rfl
    | 1 => apply Fin.ext; show (i 1).val = 128 * ((i 1).val / 128) + (i 1).val % 128; omega
  have hm := View.emb_mem_set ((cfg0.win 4).blk ⟨(i 1).val / 128, ht⟩).view (ix2 (i 0) ⟨(i 1).val % 128, Nat.mod_lt _ (by decide)⟩)
  rw [h.trans hi.symm] at hm
  exact hm

/-- The transposed weights the kernel returns: row `b` holds query `b`'s. -/
def attnOut (c : Dev nD) : Buf (Elt Ideal) ((c : Thread nD τ).loc main_v3) := fun y : S4096x64.Idx =>
  attn (ax (m ((c : Thread nD τ).loc main_arg0)) (y 0)) (ak (m ((c : Thread nD τ).loc main_arg1)) (y 0)) (asc (m ((c : Thread nD τ).loc main_arg2)) (y 0)) (y 1)

omit hreal in
/-- The host transpose after the call, over any contents `W` that hold the attention weights. -/
theorem transposed (c : Dev nD) (W : Valuation τ sig (Elt Ideal)) (hW : W (Proc.devRef .tc main_v2_1) = attnArr m c) :
    StableHlo.after (List.flatten [hostOps1]) W (Proc.devRef .tc main_v3) = attnOut m c := by
  have key : ∀ y : S4096x64.Idx, (StableHlo.after (List.flatten [hostOps1]) W (Proc.devRef .tc main_v3) : Vec Ideal S4096x64 .f32) y = attnOut m c y := by
    intro y
    idx_vars y
    after_reads_at
    exact congrFun hW _
  exact funext key

theorem tail_v3 (c : Dev nD) : Pipeline.afterTail₀ cfgs (dats m) 0 (V0 m) [hostOps1] c main_v3 = attnOut m c :=
  transposed m c _ ((Pipeline.withArrays_arr _ launch0.win.arr_inj c (V0 m c) _ 4).trans
    ((dats m 0 c).arrAt_eq_of_cover 4 (attnArr m c) (fun t _ => flushed4 m hreal c t) cover4))

/-- The kernel's run over real scores: both results hold the attention of every query, the arguments are unchanged. -/
theorem run : θ_run defs (onTc (τ := τ) (main (F := Ideal))) ⟨m, fun _ => 0, ρ⟩ fun r => ∀ c : Dev nD,
      r.2.mem ((c : Thread nD τ).loc main_v2_0) = pooledArr m c
      ∧ r.2.mem ((c : Thread nD τ).loc main_v3) = attnOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 3).trans ((dats m 0 c).arrAt_eq_of_cover 3 (pooledArr m c) (fun t _ => flushed3 m hreal c t) cover3),
      ((h.1 c).2 main_v3 (Pipeline.mem_restRefs_of main_v3 (by decide) (by decide))).trans (tail_v3 m hreal c), h.2 c⟩)
    (θ_run_and (run_main m ρ) (unchanged m ρ))

end Cert.KernelIdeal.Attend

end
-- ==== Proof.Ref.lean ====
/- The reference, element by element: its two results are the plain attention of each query over the argument arrays. -/
module

public import proofs.«01_k».proof.Proof.Gen.ReferenceIdeal.Value
public import proofs.«01_k».proof.Proof.Spec
public import Idealize.ShloMosaic.Lib.StableHlo.ReadAt

@[expose] public section

set_option maxRecDepth 16384

noncomputable section

namespace Cert.ReferenceIdeal.Attend

open Cert.ReferenceIdeal Cert.ReferenceIdeal.Gen Cert.Attention
open Idealize.ShloMosaic Idealize.ShloMosaic.TcCoe Idealize.SL.Sem

variable (X : Vec Ideal S4096x256 .bf16) (R : Vec Ideal S4096x64x256 .i32) (S : Vec Ideal S4096x64 .f32)

def rx (b : Fin 4096) (d : Fin 256) : EReal := X (ix2 b d)
def rk (b : Fin 4096) (j : Fin 64) (d : Fin 256) : EReal := codeVal ((R (ix3 b j d) : BitVec 32).truncate 8)
def rs (b : Fin 4096) (j : Fin 64) : EReal := S (ix2 b j)

theorem negInf : Ideal.ofBits .f32 0xFF800000#32 = ⊥ := by
  show Ideal.ieee 8 23 0xFF800000#32 = ⊥
  unfold Ideal.ieee
  rw [if_pos (by decide), if_pos (by decide), if_pos (by decide)]

theorem pay1_apply (b : Fin 4096) (j : Fin 64) (d : Fin 256) : k0_pay1 (F := Ideal) R (ix3 b j d) = rk R b j d := by
  pointwise [k0_pay1]
  rfl

theorem pay3_apply (b : Fin 4096) (j : Fin 64) : k0_pay3 (F := Ideal) X R S (ix2 b j) = attn (rx X b) (rk R b) (rs S b) j := by
  pointwise [k0_pay3, k0_pay2]
  simp only [negInf, max_bot_left, pay1_apply]
  rfl

theorem pay4_apply (b : Fin 4096) (d : Fin 256) : k0_pay4 (F := Ideal) X R S (ix2 b d) = pooled (rx X b) (rk R b) (rs S b) d := by
  pointwise [k0_pay4, k0_pay2]
  simp only [pay1_apply, pay3_apply]
  rfl

variable (m : (ℓ : Loc nD τ sig) → Buf (Elt Ideal) ℓ) (ρ : Dev nD → PrngReg)

theorem V27_apply (c : Dev nD) (b : Fin 4096) (j : Fin 64) :
    (V m c main_v27 : Vec Ideal S4096x64 .f32) (ix2 b j) = asc (m ((c : Thread nD τ).loc main_arg2)) b j := by
  unfold V
  after_reads_at
  exact congrArg (m ((c : Thread nD τ).loc main_arg2)) (congrArg ix1 (Fin.ext (by simp only; omega)))

theorem V24_apply (c : Dev nD) (b : Fin 4096) (j : Fin 64) (d : Fin 256) :
    ((V m c main_v24 : Vec Ideal S4096x64x256 .i32) (ix3 b j d) : BitVec 32).setWidth 8
      = byteOf (m ((c : Thread nD τ).loc main_arg1) (ix2 (rowOf b j) ⟨d.val % 64, Nat.mod_lt _ (by decide)⟩)) (byteIx ⟨d.val / 64, by omega⟩) := by
  unfold V
  after_reads_at
  by_cases h0 : d.val / 64 < 1
  on_goal 2 => by_cases h1 : d.val / 64 - 1 < 1
  on_goal 3 => by_cases h2 : d.val / 64 - 1 - 1 < 1
  all_goals simp only [dif_pos, dif_neg, *, not_false_eq_true]
  · have hb : byteIx ⟨d.val / 64, by omega⟩ = 0 := congrArg byteIx (Fin.ext (by show d.val / 64 = 0; omega) : (⟨d.val / 64, by omega⟩ : Fin 4) = 0)
    rw [hb]
    after_reads_at
    exact (shift_byte _ 0).trans (congrArg (fun i => byteOf (m ((c : Thread nD τ).loc main_arg1) i) 0)
      (congrArg₂ ix2 (Fin.ext (by show _ = 64 * b.val + 16 * (j.val % 4) + 2 * (j.val % 32 / 4) + j.val / 32; simp only; omega)) rfl))
  · have hb : byteIx ⟨d.val / 64, by omega⟩ = 2 := congrArg byteIx (Fin.ext (by show d.val / 64 = 1; omega) : (⟨d.val / 64, by omega⟩ : Fin 4) = 1)
    rw [hb]
    after_reads_at
    exact (shift_byte _ 2).trans (congrArg (fun i => byteOf (m ((c : Thread nD τ).loc main_arg1) i) 2)
      (congrArg₂ ix2 (Fin.ext (by show _ = 64 * b.val + 16 * (j.val % 4) + 2 * (j.val % 32 / 4) + j.val / 32; simp only; omega)) rfl))
  · have hb : byteIx ⟨d.val / 64, by omega⟩ = 1 := congrArg byteIx (Fin.ext (by show d.val / 64 = 2; omega) : (⟨d.val / 64, by omega⟩ : Fin 4) = 2)
    rw [hb]
    after_reads_at
    exact (shift_byte _ 1).trans (congrArg (fun i => byteOf (m ((c : Thread nD τ).loc main_arg1) i) 1)
      (congrArg₂ ix2 (Fin.ext (by show _ = 64 * b.val + 16 * (j.val % 4) + 2 * (j.val % 32 / 4) + j.val / 32; simp only; omega)) rfl))
  · have hb : byteIx ⟨d.val / 64, by omega⟩ = 3 := congrArg byteIx (Fin.ext (by show d.val / 64 = 3; omega) : (⟨d.val / 64, by omega⟩ : Fin 4) = 3)
    rw [hb]
    after_reads_at
    exact (shift_byte _ 3).trans (congrArg (fun i => byteOf (m ((c : Thread nD τ).loc main_arg1) i) 3)
      (congrArg₂ ix2 (Fin.ext (by show _ = 64 * b.val + 16 * (j.val % 4) + 2 * (j.val % 32 / 4) + j.val / 32; simp only; omega)) rfl))

end Cert.ReferenceIdeal.Attend

end
-- ==== Proof.RefRun.lean ====
/- The reference's run: its one grid point's block is the whole of either result. -/
module

public import proofs.«01_k».proof.Proof.Ref
public import Idealize.ShloMosaic.Lib.Pipeline.Value
public import Idealize.ShloMosaic.Lib.Pipeline.ValueKit.Point

@[expose] public section

set_option maxRecDepth 16384

noncomputable section

namespace Cert.ReferenceIdeal.Attend

open Cert.ReferenceIdeal Cert.ReferenceIdeal.Gen Cert.Attention
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The pooled values of every query. -/
def pooledArr (c : Dev nD) : Buf (Elt Ideal) ((c : Thread nD τ).loc main_v28_0) := fun y : S4096x256.Idx =>
  pooled (ax (m ((c : Thread nD τ).loc main_arg0)) (y 0)) (ak (m ((c : Thread nD τ).loc main_arg1)) (y 0)) (asc (m ((c : Thread nD τ).loc main_arg2)) (y 0)) (y 1)

/-- The attention weights of every query. -/
def attnArr (c : Dev nD) : Buf (Elt Ideal) ((c : Thread nD τ).loc main_v28_1) := fun y : S4096x64.Idx =>
  attn (ax (m ((c : Thread nD τ).loc main_arg0)) (y 0)) (ak (m ((c : Thread nD τ).loc main_arg1)) (y 0)) (asc (m ((c : Thread nD τ).loc main_arg2)) (y 0)) (y 1)

theorem idx0 : ∀ t : Fin cfg0.N, win0_0.index t = ![0, 0] := (by decide +kernel : ∀ t : Fin grid0.N, win0_0.index t = ![0, 0])
theorem idx1 : ∀ t : Fin cfg0.N, win0_1.index t = ![0, 0, 0] := (by decide +kernel : ∀ t : Fin grid0.N, win0_1.index t = ![0, 0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])

theorem blk0 (c : Dev nD) (t : Fin cfg0.N) (b : Fin 4096) : rx (iblk m c 0 t) b = ax (m ((c : Thread nD τ).loc main_arg0)) b := by
  funext d
  show iblk m c 0 t (ix2 b d) = m ((c : Thread nD τ).loc main_arg0) (ix2 b d)
  rw [← V_main_arg0 m c]
  unfold iblk
  show V m c main_arg0 (((cfg0.win 0).blk t).view.emb (ix2 b d)) = _
  refine congrArg (V m c main_arg0) (funext fun a => Fin.ext ?_)
  match a with
  | 0 => show win0_0.index t 0 * 4096 + 1 * b.val = b.val; rw [idx0]; show 0 * 4096 + 1 * b.val = b.val; omega
  | 1 => show win0_0.index t 1 * 256 + 1 * d.val = d.val; rw [idx0]; show 0 * 256 + 1 * d.val = d.val; omega

theorem blk1 (c : Dev nD) (t : Fin cfg0.N) (b : Fin 4096) : rk (iblk m c 1 t) b = ak (m ((c : Thread nD τ).loc main_arg1)) b := by
  funext j d
  refine Eq.trans ?_ (congrArg codeVal (V24_apply m c b j d))
  show codeVal (((V m c main_v24 : Vec Ideal S4096x64x256 .i32) (((cfg0.win 1).blk t).view.emb (ix3 b j d)) : BitVec 32).setWidth 8) = _
  refine congrArg (fun i => codeVal (((V m c main_v24 : Vec Ideal S4096x64x256 .i32) i : BitVec 32).setWidth 8)) (funext fun a => Fin.ext ?_)
  match a with
  | 0 => show win0_1.index t 0 * 4096 + 1 * b.val = b.val; rw [idx1]; show 0 * 4096 + 1 * b.val = b.val; omega
  | 1 => show win0_1.index t 1 * 64 + 1 * j.val = j.val; rw [idx1]; show 0 * 64 + 1 * j.val = j.val; omega
  | 2 => show win0_1.index t 2 * 256 + 1 * d.val = d.val; rw [idx1]; show 0 * 256 + 1 * d.val = d.val; omega

theorem blk2 (c : Dev nD) (t : Fin cfg0.N) (b : Fin 4096) : rs (iblk m c 2 t) b = asc (m ((c : Thread nD τ).loc main_arg2)) b := by
  funext j
  refine Eq.trans ?_ (V27_apply m c b j)
  show (V m c main_v27 : Vec Ideal S4096x64 .f32) (((cfg0.win 2).blk t).view.emb (ix2 b j)) = _
  refine congrArg (V m c main_v27 : Vec Ideal S4096x64 .f32) (funext fun a => Fin.ext ?_)
  match a with
  | 0 => show win0_2.index t 0 * 4096 + 1 * b.val = b.val; rw [idx2]; show 0 * 4096 + 1 * b.val = b.val; omega
  | 1 => show win0_2.index t 1 * 64 + 1 * j.val = j.val; rw [idx2]; show 0 * 64 + 1 * j.val = j.val; omega

theorem hz : (![0, 0] : Fin 2 → Nat) = fun _ => 0 := funext fun a => by fin_cases a <;> rfl
theorem hz3 : (![0, 0, 0] : Fin 3 → Nat) = fun _ => 0 := funext fun a => by fin_cases a <;> rfl

theorem emb3 (t : Fin cfg0.N) (b : Fin 4096) (d : Fin 256) : ((cfg0.win 3).blk t).view.emb (ix2 b d) = (ix2 b d : S4096x256.Idx) := by
  funext a
  match a with
  | 0 => apply Fin.ext; show win0_3.index t 0 * 4096 + 1 * b.val = b.val; rw [idx3]; show 0 * 4096 + 1 * b.val = b.val; omega
  | 1 => apply Fin.ext; show win0_3.index t 1 * 256 + 1 * d.val = d.val; rw [idx3]; show 0 * 256 + 1 * d.val = d.val; omega

theorem emb4 (t : Fin cfg0.N) (b : Fin 4096) (j : Fin 64) : ((cfg0.win 4).blk t).view.emb (ix2 b j) = (ix2 b j : S4096x64.Idx) := by
  funext a
  match a with
  | 0 => apply Fin.ext; show win0_4.index t 0 * 4096 + 1 * b.val = b.val; rw [idx4]; show 0 * 4096 + 1 * b.val = b.val; omega
  | 1 => apply Fin.ext; show win0_4.index t 1 * 64 + 1 * j.val = j.val; rw [idx4]; show 0 * 64 + 1 * j.val = j.val; omega

theorem flushed3 (c : Dev nD) (t : Fin cfg0.N) : (dats m 0 c).flushed 3 t = ((cfg0.win 3).blk t).view.read (Elt Ideal) (pooledArr m c) := by
  rw [Value.flushed3]
  unfold out0_3
  rw [View.canon_unit_zero hz, View.ld_unit_zero hz, View.ld_unit_zero hz3, View.ld_unit_zero hz]
  have key : ∀ y : S4096x256.Idx, k0_pay4 (F := Ideal) (iblk m c 0 t) (iblk m c 1 t) (iblk m c 2 t) y = pooledArr m c (((cfg0.win 3).blk t).view.emb y) := by
    intro y
    idx_vars y
    rw [emb3, pay4_apply, blk0, blk1, blk2]
    rfl
  exact funext key

theorem flushed4 (c : Dev nD) (t : Fin cfg0.N) : (dats m 0 c).flushed 4 t = ((cfg0.win 4).blk t).view.read (Elt Ideal) (attnArr m c) := by
  rw [Value.flushed4]
  unfold out0_4
  rw [View.canon_unit_zero hz, View.ld_unit_zero hz, View.ld_unit_zero hz3, View.ld_unit_zero hz]
  have key : ∀ y : S4096x64.Idx, k0_pay3 (F := Ideal) (iblk m c 0 t) (iblk m c 1 t) (iblk m c 2 t) y = attnArr m c (((cfg0.win 4).blk t).view.emb y) := by
    intro y
    idx_vars y
    rw [emb4, pay3_apply, blk0, blk1, blk2]
    rfl
  exact funext key

theorem cover3 (i : S4096x256.Idx) : ∃ t : Fin cfg0.N, (cfg0.win 3).flush t = true ∧ i ∈ ((cfg0.win 3).blk t).view.set := by
  have hN : cfg0.N = 1 := N_0
  refine ⟨⟨0, by omega⟩, flush0_3 _, ?_⟩
  have h := emb3 ⟨0, by omega⟩ (i 0) (i 1)
  have hi : i = (ix2 (i 0) (i 1) : S4096x256.Idx) := by funext a; match a with | 0 => rfl | 1 => rfl
  rw [hi, ← h]
  exact View.emb_mem_set _ _

theorem cover4 (i : S4096x64.Idx) : ∃ t : Fin cfg0.N, (cfg0.win 4).flush t = true ∧ i ∈ ((cfg0.win 4).blk t).view.set := by
  have hN : cfg0.N = 1 := N_0
  refine ⟨⟨0, by omega⟩, flush0_4 _, ?_⟩
  have h := emb4 ⟨0, by omega⟩ (i 0) (i 1)
  have hi : i = (ix2 (i 0) (i 1) : S4096x64.Idx) := by funext a; match a with | 0 => rfl | 1 => rfl
  rw [hi, ← h]
  exact View.emb_mem_set _ _

/-- The reference's run: both results hold the attention of every query, the arguments are unchanged. -/
theorem run : θ_run defs (onTc (τ := τ) (main (F := Ideal))) ⟨m, fun _ => 0, ρ⟩ fun r => ∀ c : Dev nD,
      r.2.mem ((c : Thread nD τ).loc main_v28_0) = pooledArr m c
      ∧ r.2.mem ((c : Thread nD τ).loc main_v28_1) = attnArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3 (pooledArr m c) (fun t _ => flushed3 m c t) cover3),
      (h c).2.1.trans ((dats m 0 c).arrAt_eq_of_cover 4 (attnArr m c) (fun t _ => flushed4 m c t) cover4), (h c).2.2⟩)
    (Value.run_blocks m ρ)

end Cert.ReferenceIdeal.Attend

end
-- ==== Proof.Finite.lean ====
/- The precondition at an element: the vectors and scales are real and no code byte is a NaN, so every score is real. -/
module

public import proofs.«01_k».proof.Proof.Gen.Pre_real
public import proofs.«01_k».proof.Pre_real
public import proofs.«01_k».proof.Proof.Spec
public import Idealize.ShloMosaic.Lib.WordCmp

@[expose] public section

noncomputable section

namespace Cert.Pre_real

open Idealize.ShloMosaic Idealize.ShloMosaic.WordCmp Cert.Attention

variable [Facts] (X : FVec Ideal S4096x256 .bf16) (R : IVec S262144x64 32) (C : FVec Ideal S262144 .f32)

omit [Facts] in
theorem real_of_abs {a b : EReal} (e : BitVec.ofBool (decide (max a (-a) < b)) = 1#1) : ∃ r : ℝ, a = (r : EReal) := by
  have h : max a (-a) < b := (ofBool_decide_eq_one_iff _).mp e
  induction a with
  | bot => simp at h
  | top => simp at h
  | coe r => exact ⟨r, rfl⟩

omit [Facts] in
theorem of_andi : ∀ {a b : BitVec 1}, IntOp.andi a b = 1#1 → a = 1#1 ∧ b = 1#1 := by decide

omit [Facts] in
theorem byte_of_ne (w : BitVec 32) (c : Fin 4) (e : IntOp.cmpi .ne (IntOp.andi (IntOp.shrsi .host w (BitVec.ofNat 32 (8 * c.val))) 127#32) 127#32 = 1#1) :
    ∃ r : ℝ, codeVal (byteOf w c) = (r : EReal) := by
  rw [shift_byte7, cmpi_ne_eq, ofBool_decide_eq_one_iff] at e
  exact codeVal_real _ fun h => e (by rw [h]; decide)

theorem x_real (h : (fn (F := Ideal) X R C).1 = fun _ => 1#1) (b : Fin 4096) (d : Fin 256) : ∃ r : ℝ, X (ix2 b d) = (r : EReal) := by
  have e := congrFun h (ix2 b d)
  revert e
  pointwise [fn, fn_part1]
  exact real_of_abs

theorem code_real (h : (fn (F := Ideal) X R C).2.1 = fun _ => 1#1) (b : Fin 262144) (d : Fin 64) (c : Fin 4) : ∃ r : ℝ, codeVal (byteOf (R (ix2 b d)) c) = (r : EReal) := by
  have e := congrFun h (ix2 b d)
  revert e
  pointwise [fn, fn_part1]
  intro e
  obtain ⟨e, e3⟩ := of_andi e
  obtain ⟨e, e2⟩ := of_andi e
  obtain ⟨e0, e1⟩ := of_andi e
  match c with
  | 0 => exact byte_of_ne _ 0 e0
  | 1 => exact byte_of_ne _ 1 e1
  | 2 => exact byte_of_ne _ 2 e2
  | 3 => exact byte_of_ne _ 3 e3

theorem scale_real (h : (fn (F := Ideal) X R C).2.2 = fun _ => 1#1) (b : Fin 262144) : ∃ r : ℝ, C (ix1 b) = (r : EReal) := by
  have e := congrFun h (ix1 b)
  revert e
  pointwise [fn, fn_part1]
  exact real_of_abs

/-- Under the precondition every score of every query is real. -/
theorem scores_real (h : (fn (F := Ideal) X R C).1 = (fun _ => 1#1) ∧ (fn (F := Ideal) X R C).2.1 = (fun _ => 1#1) ∧ (fn (F := Ideal) X R C).2.2 = fun _ => 1#1)
    (b : Fin 4096) : Real' (ax X b) (ak R b) (asc C b) :=
  score_real _ _ _ (fun d => x_real X R C h.1 b d) (fun j d => code_real X R C h.2.1 _ _ _) fun j => scale_real X R C h.2.2 _

end Cert.Pre_real

end
-- ==== Proof.PackTrip.lean ====
/- What the relayout kernel stores at one grid point: a block of packed words as a function of the block of code bytes
   the grid point reads. -/
module

public import proofs.«01_k».proof.Proof.Gen.Relayout.Frame
public import Idealize.ShloMosaic.Lib.Pipeline.Value
public import Idealize.ShloMosaic.Lib.Pointwise.Index

@[expose] public section

set_option maxRecDepth 16384

noncomputable section

namespace Cert.Relayout.Pack

open Cert.Relayout Cert.Relayout.Gen
open Idealize.ShloMosaic Idealize.ShloMosaic.TcCoe Idealize.SL.Sem

variable {F : FTy → Type} [BitOps F]

/-- The loop makes 75 trips. -/
theorem trips_eq : k0_t1_loop.trips = 75 := by decide +kernel

/-- The left 128 columns of the 32 rows of group `g` of trip `k`. -/
def left (x : Vec F S12000x256 .fp8e4m3) (k : Fin k0_t1_loop.trips) (g : Fin 5) : Vec F S32x128 .fp8e4m3 :=
  View.ld x (Rect.unit (s := S12000x256) (k0_off1 k (BitVec.ofNat 32 g.val)) S32x128.size (k0_off1_inb k g))

/-- The right 128 columns of the 32 rows of group `g` of trip `k`. -/
def right (x : Vec F S12000x256 .fp8e4m3) (k : Fin k0_t1_loop.trips) (g : Fin 5) : Vec F S32x128 .fp8e4m3 :=
  View.ld x (Rect.unit (s := S12000x256) (k0_off2 k (BitVec.ofNat 32 g.val)) S32x128.size (k0_off2_inb k g))

/-- The eight rows of words of the even items of a group. -/
def evenRows (x : Vec F S12000x256 .fp8e4m3) (k : Fin k0_t1_loop.trips) (g : Fin 5) : IVec S8x128 32 :=
  k0_pay6 k0_pay1 (left x k g) (right x k g)

/-- The eight rows of words of the odd items of a group. -/
def oddRows (x : Vec F S12000x256 .fp8e4m3) (k : Fin k0_t1_loop.trips) (g : Fin 5) : IVec S8x128 32 :=
  k0_pay7 k0_pay1 (k0_pay5 (left x k g) (right x k g))

/-- The store of a group's even or odd rows. -/
def piece (x : Vec F S12000x256 .fp8e4m3) (k : Fin k0_t1_loop.trips) (gh : Fin 5 × Bool) : View.Piece (Elt F) S6000x128 .i32 :=
  match gh.2 with
  | false => ⟨Rect.unit (s := S6000x128) (k0_off3 k (BitVec.ofNat 32 gh.1.val)) S8x128.size (k0_off3_inb k gh.1), evenRows x k gh.1⟩
  | true => ⟨Rect.unit (s := S6000x128) (k0_off4 k (BitVec.ofNat 32 gh.1.val)) S8x128.size (k0_off4_inb k gh.1), oddRows x k gh.1⟩

/-- The stores of a trip, last first. -/
def stores : List (Fin 5 × Bool) :=
  [(4, true), (4, false), (3, true), (3, false), (2, true), (2, false), (1, true), (1, false), (0, true), (0, false)]

theorem mem_stores : ∀ gh : Fin 5 × Bool, gh ∈ stores := by decide

set_option maxHeartbeats 0 in
/-- What a trip stores. -/
theorem trip_pieces (𝒱 : Variants) (c : Dev nD) (bd : Option 𝒱.V) (i : grid0.Coords) (arg1 : Memref sig .tc .vmem S12000x256 .fp8e4m3) (harg1 : arg1.IsWhole) (arg2 : Memref sig .tc .vmem S6000x128 .i32) (harg2 : arg2.IsWhole)
    (X : BufTy.Contents (Elt F) arg1.view.ty) (k : Fin k0_t1_loop.trips) :
    tripL_k0_t1 (F := F) 𝒱 c bd i arg1 harg1 arg2 harg2 X k = stores.map (piece (arg1.view.read (Elt F) X) k) := by
  unfold tripL_k0_t1 trip_k0_t1
  rfl

theorem run_pieces (c : Dev nD) (i : grid0.Coords) (arg1 : Memref sig .tc .vmem S12000x256 .fp8e4m3) (harg1 : arg1.IsWhole) (arg2 : Memref sig .tc .vmem S6000x128 .i32) (harg2 : arg2.IsWhole)
    (x0 : Vec F S12000x256 .fp8e4m3) :
    (kernelRun0_A c i arg1 harg1 arg2 harg2 x0).1
      = pb_k0_t1 (F := F) Variants.none c none i arg1 harg1 arg2 harg2 (harg1.unread x0) k0_t1_loop.trips := by
  unfold kernelRun0_A
  rfl

end Cert.Relayout.Pack

end
-- ==== Proof.PackRows.lean ====
/- The relayout kernel's block, element by element: which item's code bytes each word is made of. -/
module

public import proofs.«01_k».proof.Proof.PackTrip
public import Idealize.ShloMosaic.Lib.BitcastPair
public import Mathlib.Tactic.IntervalCases

@[expose] public section

set_option maxRecDepth 16384

noncomputable section

namespace Cert.Relayout.Pack

open Cert.Relayout Cert.Relayout.Gen
open Idealize.ShloMosaic Idealize.ShloMosaic.TcCoe Idealize.SL.Sem

variable {F : FTy → Type} [BitOps F]

/-! ## Words and their bytes -/

/-- Byte `c` of a word, the low one first. -/
def byteOf (w : BitVec 32) (c : Fin 4) : BitVec 8 := w.extractLsb' (8 * c.val) 8

/-- Four bytes as one word, the low one first. -/
def pack4 (b0 b1 b2 b3 : BitVec 8) : BitVec 32 :=
  b0.setWidth 32 ||| b1.setWidth 32 <<< 8 ||| b2.setWidth 32 <<< 16 ||| b3.setWidth 32 <<< 24

/-- The even bytes of two words side by side. -/
def even2 (a b : BitVec 32) : BitVec 32 := a &&& 16711935#32 ||| (b &&& 16711935#32) <<< 8
/-- The odd bytes of two words side by side. -/
def odd2 (a b : BitVec 32) : BitVec 32 := (a >>> 8) &&& 16711935#32 ||| b &&& 4278255360#32

theorem even_low (a b a' b' : BitVec 32) :
    even2 a b &&& 65535#32 ||| even2 a' b' <<< 16 = pack4 (byteOf a 0) (byteOf b 0) (byteOf a' 0) (byteOf b' 0) := by
  apply BitVec.eq_of_getLsbD_eq; intro j hj; interval_cases j <;>
    simp [byteOf, even2, pack4, BitVec.getLsbD_extractLsb', BitVec.getLsbD_ofNat]

theorem even_high (a b a' b' : BitVec 32) :
    even2 a' b' >>> 16 ||| even2 a b &&& 4294901760#32 = pack4 (byteOf a' 2) (byteOf b' 2) (byteOf a 2) (byteOf b 2) := by
  apply BitVec.eq_of_getLsbD_eq; intro j hj; interval_cases j <;>
    simp [byteOf, even2, pack4, BitVec.getLsbD_extractLsb', BitVec.getLsbD_ofNat]

theorem odd_low (a b a' b' : BitVec 32) :
    odd2 a b &&& 65535#32 ||| odd2 a' b' <<< 16 = pack4 (byteOf a 1) (byteOf b 1) (byteOf a' 1) (byteOf b' 1) := by
  apply BitVec.eq_of_getLsbD_eq; intro j hj; interval_cases j <;>
    simp [byteOf, odd2, pack4, BitVec.getLsbD_extractLsb', BitVec.getLsbD_ofNat]

theorem odd_high (a b a' b' : BitVec 32) :
    odd2 a' b' >>> 16 ||| odd2 a b &&& 4294901760#32 = pack4 (byteOf a' 3) (byteOf b' 3) (byteOf a 3) (byteOf b 3) := by
  apply BitVec.eq_of_getLsbD_eq; intro j hj; interval_cases j <;>
    simp [byteOf, odd2, pack4, BitVec.getLsbD_extractLsb', BitVec.getLsbD_ofNat]

/-- Byte `c` of row `r` of the words is row `4 r + c` of the bytes. -/
theorem bitcast_byte (v : IVec S32x128 8) (r : Fin 8) (l : Fin 128) (c : Fin 4) :
    byteOf (bitcast S8x128 32 v bitcasts_S32x128_w8_S8x128_w32 (ix2 r l)) c = v (ix2 ⟨4 * r.val + c.val, by omega⟩ l) := by
  apply BitVec.eq_of_getLsbD_eq
  intro q hq
  unfold byteOf
  rw [BitVec.getLsbD_extractLsb']
  simp only [hq, decide_true, Bool.true_and]
  rw [bitcast_getLsbD v _ _ (8 * c.val + q) (by omega) (by decide)]
  have er : S8x128.row (ix2 r l) = r.val := rfl
  have ep : (S8x128.row (ix2 r l) * 32 + (8 * c.val + q)) / 8 = 4 * r.val + c.val := by rw [er]; omega
  have eq : (S8x128.row (ix2 r l) * 32 + (8 * c.val + q)) % 8 = q := by rw [er]; omega
  rw [eq]
  congr 2
  funext a
  match a with
  | 0 => exact Fin.ext ep
  | 1 => rfl

theorem rotate_apply (e : IVec S8x128 32) (r : Fin 8) (l : Fin 128) :
    dynamicRotate 1 64#32 none e rotates_S8x128_d1 (ix2 r l) = e (ix2 r ⟨(l.val + 64) % 128, Nat.mod_lt _ (by decide)⟩) := by
  unfold dynamicRotate
  dsimp only
  congr 1
  funext a
  match a with
  | 0 => rfl
  | 1 => apply Fin.ext; show (l.val + 128 - (64 + 0) % 128) % 128 = (l.val + 64) % 128; omega

theorem mask_apply : ∀ (r : Fin 8) (l : Fin 128), k0_pay1 (ix2 r l) = if l.val < 64 then 1#1 else 0#1 := by decide +kernel

/-! ## The four bytes of each word -/

theorem off1_eq : ∀ (k : Fin k0_t1_loop.trips) (g : Fin 5), k0_off1 k (BitVec.ofNat 32 g.val) = ![160 * k.val + 32 * g.val, 0] := by decide +kernel
theorem off2_eq : ∀ (k : Fin k0_t1_loop.trips) (g : Fin 5), k0_off2 k (BitVec.ofNat 32 g.val) = ![160 * k.val + 32 * g.val, 128] := by decide +kernel
theorem off3_eq : ∀ (k : Fin k0_t1_loop.trips) (g : Fin 5), k0_off3 k (BitVec.ofNat 32 g.val) = ![80 * k.val + 16 * g.val, 0] := by decide +kernel
theorem off4_eq : ∀ (k : Fin k0_t1_loop.trips) (g : Fin 5), k0_off4 k (BitVec.ofNat 32 g.val) = ![80 * k.val + 16 * g.val + 8, 0] := by decide +kernel

theorem trip_lt (k : Fin k0_t1_loop.trips) : k.val < 75 := trips_eq ▸ k.isLt

/-- The word of dimensions `w`, `128 + w`, `64 + w`, `192 + w` of item `n` of an array of code bytes. -/
def packed {N : Nat} (B : (⟨2, ![N, 256]⟩ : Shape).Idx → BitVec 8) (n : Fin N) (w : Fin 64) : BitVec 32 :=
  pack4 (B (ix2 n ⟨w.val, by omega⟩)) (B (ix2 n ⟨128 + w.val, by omega⟩)) (B (ix2 n ⟨64 + w.val, by omega⟩)) (B (ix2 n ⟨192 + w.val, by omega⟩))

theorem packed_of {N : Nat} (B : (⟨2, ![N, 256]⟩ : Shape).Idx → BitVec 8) (n : Fin N) (w : Fin 64) (n0 n1 n2 n3 : Fin N) (d0 d1 d2 d3 : Fin 256)
    (h0 : n0.val = n.val) (h1 : n1.val = n.val) (h2 : n2.val = n.val) (h3 : n3.val = n.val)
    (e0 : d0.val = w.val) (e1 : d1.val = 128 + w.val) (e2 : d2.val = 64 + w.val) (e3 : d3.val = 192 + w.val) :
    pack4 (B (ix2 n0 d0)) (B (ix2 n1 d1)) (B (ix2 n2 d2)) (B (ix2 n3 d3)) = packed B n w := by
  obtain rfl : n0 = n := Fin.ext h0
  obtain rfl : n1 = n0 := Fin.ext h1
  obtain rfl : n2 = n1 := Fin.ext h2
  obtain rfl : n3 = n2 := Fin.ext h3
  have hw : w.val < 64 := w.isLt
  rw [show d0 = ⟨w.val, by clear * - hw; omega⟩ from Fin.ext e0, show d1 = ⟨128 + w.val, by clear * - hw; omega⟩ from Fin.ext e1,
    show d2 = ⟨64 + w.val, by clear * - hw; omega⟩ from Fin.ext e2, show d3 = ⟨192 + w.val, by clear * - hw; omega⟩ from Fin.ext e3]
  rfl

section rows

variable (x : Vec F S12000x256 .fp8e4m3) (k : Fin k0_t1_loop.trips) (g : Fin 5)

/-- Row of the block that byte `c` of row `r` of the group's words comes from. -/
def item (r : Fin 8) (c : Fin 4) : Fin 12000 :=
  ⟨160 * k.val + 32 * g.val + 4 * r.val + c.val, by have := trip_lt k; omega⟩

theorem left_byte (r : Fin 8) (l : Fin 128) (c : Fin 4) :
    byteOf (k0_pay3 (left x k g) (ix2 r l)) c = bitcastToInt (F := F) (s := S12000x256) (φ := .fp8e4m3) x (ix2 (item k g r c) ⟨l.val, by omega⟩) := by
  unfold k0_pay3
  refine (bitcast_byte _ r l c).trans ?_
  refine congrArg (fun j => BitOps.toBits (F := F) (φ := .fp8e4m3) (x j)) ?_
  funext a
  match a with
  | 0 =>
    apply Fin.ext; show k0_off1 k (BitVec.ofNat 32 g.val) 0 + 1 * (4 * r.val + c.val) = 160 * k.val + 32 * g.val + 4 * r.val + c.val
    rw [off1_eq]; show 160 * k.val + 32 * g.val + 1 * (4 * r.val + c.val) = _; omega
  | 1 => apply Fin.ext; show k0_off1 k (BitVec.ofNat 32 g.val) 1 + 1 * l.val = l.val; rw [off1_eq]; show 0 + 1 * l.val = _; omega

theorem right_byte (r : Fin 8) (l : Fin 128) (c : Fin 4) :
    byteOf (k0_pay4 (right x k g) (ix2 r l)) c = bitcastToInt (F := F) (s := S12000x256) (φ := .fp8e4m3) x (ix2 (item k g r c) ⟨128 + l.val, by omega⟩) := by
  unfold k0_pay4
  refine (bitcast_byte _ r l c).trans ?_
  refine congrArg (fun j => BitOps.toBits (F := F) (φ := .fp8e4m3) (x j)) ?_
  funext a
  match a with
  | 0 =>
    apply Fin.ext; show k0_off2 k (BitVec.ofNat 32 g.val) 0 + 1 * (4 * r.val + c.val) = 160 * k.val + 32 * g.val + 4 * r.val + c.val
    rw [off2_eq]; show 160 * k.val + 32 * g.val + 1 * (4 * r.val + c.val) = _; omega
  | 1 => apply Fin.ext; show k0_off2 k (BitVec.ofNat 32 g.val) 1 + 1 * l.val = 128 + l.val; rw [off2_eq]; show 128 + 1 * l.val = _; omega

/-- A select between a word's halves and its rotated neighbour's. -/
theorem halves_apply (v e : IVec S8x128 32) (r : Fin 8) (l : Fin 128)
    (h : v = select k0_pay1
      (ori (andi e (broadcast S8x128 65535#32)) (shli (dynamicRotate 1 64#32 none e rotates_S8x128_d1) (broadcast S8x128 16#32)))
      (ori (shrui (dynamicRotate 1 64#32 none e rotates_S8x128_d1) (broadcast S8x128 16#32)) (andi e (broadcast S8x128 4294901760#32)))) :
    v (ix2 r l) = if l.val < 64
      then e (ix2 r l) &&& 65535#32 ||| e (ix2 r ⟨(l.val + 64) % 128, Nat.mod_lt _ (by decide)⟩) <<< 16
      else e (ix2 r ⟨(l.val + 64) % 128, Nat.mod_lt _ (by decide)⟩) >>> 16 ||| e (ix2 r l) &&& 4294901760#32 := by
  subst h
  show (if k0_pay1 (ix2 r l) = 1 then (e (ix2 r l) &&& 65535#32 ||| dynamicRotate 1 64#32 none e rotates_S8x128_d1 (ix2 r l) <<< 16)
    else (dynamicRotate 1 64#32 none e rotates_S8x128_d1 (ix2 r l) >>> 16 ||| e (ix2 r l) &&& 4294901760#32)) = _
  rw [mask_apply, rotate_apply]
  by_cases hl : l.val < 64
  · rw [if_pos hl, if_pos hl, if_pos (show (1#1 : BitVec 1) = 1 from rfl)]
  · rw [if_neg hl, if_neg hl, if_neg (show ¬ (0#1 : BitVec 1) = 1 by decide)]

/-- Row `r`, lane `l` of a group's even rows. -/
theorem evenRows_apply (r : Fin 8) (l : Fin 128) :
    evenRows x k g (ix2 r l) = packed (bitcastToInt (F := F) (s := S12000x256) (φ := .fp8e4m3) x)
      (item k g r ⟨2 * (l.val / 64), by omega⟩) ⟨l.val % 64, Nat.mod_lt _ (by decide)⟩ := by
  have he : ∀ y : S8x128.Idx, (ori (andi (k0_pay3 (left x k g)) (broadcast S8x128 16711935#32)) (shli (andi (k0_pay4 (right x k g)) (broadcast S8x128 16711935#32)) (broadcast S8x128 8#32)) : IVec S8x128 32) y
      = even2 (k0_pay3 (left x k g) y) (k0_pay4 (right x k g) y) := fun _ => rfl
  rw [halves_apply (evenRows x k g) _ r l rfl, he, he]
  by_cases hl : l.val < 64
  · have h0 : l.val / 64 = 0 := by omega
    rw [if_pos hl, even_low]
    simp only [left_byte, right_byte]
    refine packed_of _ _ _ _ _ _ _ _ _ _ _ ?_ ?_ ?_ ?_ ?_ ?_ ?_ ?_ <;> simp only [item, Fin.isValue, Fin.val_zero, Fin.val_one, Fin.val_two, show ((3 : Fin 4) : ℕ) = 3 from rfl] <;> omega
  · rw [if_neg hl, even_high]
    simp only [left_byte, right_byte]
    refine packed_of _ _ _ _ _ _ _ _ _ _ _ ?_ ?_ ?_ ?_ ?_ ?_ ?_ ?_ <;> simp only [item, Fin.isValue, Fin.val_zero, Fin.val_one, Fin.val_two, show ((3 : Fin 4) : ℕ) = 3 from rfl] <;> omega

/-- Row `r`, lane `l` of a group's odd rows. -/
theorem oddRows_apply (r : Fin 8) (l : Fin 128) :
    oddRows x k g (ix2 r l) = packed (bitcastToInt (F := F) (s := S12000x256) (φ := .fp8e4m3) x)
      (item k g r ⟨2 * (l.val / 64) + 1, by omega⟩) ⟨l.val % 64, Nat.mod_lt _ (by decide)⟩ := by
  have he : ∀ y : S8x128.Idx, k0_pay5 (left x k g) (right x k g) y
      = odd2 (k0_pay3 (left x k g) y) (k0_pay4 (right x k g) y) := fun _ => rfl
  rw [halves_apply (oddRows x k g) (k0_pay5 (left x k g) (right x k g)) r l rfl, he, he]
  by_cases hl : l.val < 64
  · rw [if_pos hl, odd_low]
    simp only [left_byte, right_byte]
    refine packed_of _ _ _ _ _ _ _ _ _ _ _ ?_ ?_ ?_ ?_ ?_ ?_ ?_ ?_ <;> simp only [item, Fin.isValue, Fin.val_zero, Fin.val_one, Fin.val_two, show ((3 : Fin 4) : ℕ) = 3 from rfl] <;> omega
  · rw [if_neg hl, odd_high]
    simp only [left_byte, right_byte]
    refine packed_of _ _ _ _ _ _ _ _ _ _ _ ?_ ?_ ?_ ?_ ?_ ?_ ?_ ?_ <;> simp only [item, Fin.isValue, Fin.val_zero, Fin.val_one, Fin.val_two, show ((3 : Fin 4) : ℕ) = 3 from rfl] <;> omega

end rows

end Cert.Relayout.Pack

end
-- ==== Proof.PackBlock.lean ====
/- The relayout kernel's block after its loop: every word of the block by its place. -/
module

public import proofs.«01_k».proof.Proof.PackRows
public import Idealize.ShloMosaic.Lib.Writes

@[expose] public section

set_option maxRecDepth 16384

noncomputable section

namespace Cert.Relayout.Pack

open Cert.Relayout Cert.Relayout.Gen
open Idealize.ShloMosaic Idealize.ShloMosaic.TcCoe Idealize.SL.Sem

variable {F : FTy → Type} [BitOps F]

/-- The row of the block whose codes make up the word in row `q`, lane `l`: in every 32 rows the even items come
    first, then the odd ones. -/
def source (q : Fin 6000) (l : Fin 128) : Fin 12000 :=
  ⟨32 * (q.val / 16) + 4 * (q.val % 8) + 2 * (l.val / 64) + q.val % 16 / 8, by omega⟩

/-- The block of packed words. -/
def packedBlock (x : Vec F S12000x256 .fp8e4m3) : Vec F S6000x128 .i32 := fun y =>
  packed (bitcastToInt (F := F) (s := S12000x256) (φ := .fp8e4m3) x) (source (y 0) (y 1)) ⟨(y 1).val % 64, Nat.mod_lt _ (by decide)⟩

theorem packed_congr {N : Nat} (B : (⟨2, ![N, 256]⟩ : Shape).Idx → BitVec 8) {n n' : Fin N} {w w' : Fin 64} (hn : n.val = n'.val) (hw : w.val = w'.val) :
    packed B n w = packed B n' w' := by
  obtain rfl := Fin.ext hn
  obtain rfl := Fin.ext hw
  rfl

theorem piece_apply (x : Vec F S12000x256 .fp8e4m3) (k : Fin k0_t1_loop.trips) (gh : Fin 5 × Bool) (z : (piece x k gh).1.shape.Idx) :
    (piece x k gh).2 z = packedBlock x ((piece x k gh).1.emb z) := by
  have hk := trip_lt k
  obtain ⟨g, h⟩ := gh
  cases h with
  | false =>
    have h0 : (z 0).val < 8 := (z 0).isLt
    have h1 : (z 1).val < 128 := (z 1).isLt
    have e0 : (((piece x k (g, false)).1.emb z) 0).val = 80 * k.val + 16 * g.val + (z 0).val := by
      show k0_off3 k (BitVec.ofNat 32 g.val) 0 + 1 * (z 0).val = _; rw [off3_eq]; show 80 * k.val + 16 * g.val + 1 * (z 0).val = _; omega
    have e1 : (((piece x k (g, false)).1.emb z) 1).val = (z 1).val := by
      show k0_off3 k (BitVec.ofNat 32 g.val) 1 + 1 * (z 1).val = _; rw [off3_eq]; show 0 + 1 * (z 1).val = _; omega
    have hz : z = ix2 (⟨(z 0).val, h0⟩ : Fin 8) (⟨(z 1).val, h1⟩ : Fin 128) := by
      funext a; match a with | 0 => rfl | 1 => rfl
    refine (congrArg (evenRows x k g) hz).trans ((evenRows_apply x k g _ _).trans ?_)
    refine packed_congr _ ?_ ?_
    · dsimp only [item, source]
      rw [e0, e1]
      omega
    · dsimp only; rw [e1]
  | true =>
    have h0 : (z 0).val < 8 := (z 0).isLt
    have h1 : (z 1).val < 128 := (z 1).isLt
    have e0 : (((piece x k (g, true)).1.emb z) 0).val = 80 * k.val + 16 * g.val + 8 + (z 0).val := by
      show k0_off4 k (BitVec.ofNat 32 g.val) 0 + 1 * (z 0).val = _; rw [off4_eq]; show 80 * k.val + 16 * g.val + 8 + 1 * (z 0).val = _; omega
    have e1 : (((piece x k (g, true)).1.emb z) 1).val = (z 1).val := by
      show k0_off4 k (BitVec.ofNat 32 g.val) 1 + 1 * (z 1).val = _; rw [off4_eq]; show 0 + 1 * (z 1).val = _; omega
    have hz : z = ix2 (⟨(z 0).val, h0⟩ : Fin 8) (⟨(z 1).val, h1⟩ : Fin 128) := by
      funext a; match a with | 0 => rfl | 1 => rfl
    refine (congrArg (oddRows x k g) hz).trans ((oddRows_apply x k g _ _).trans ?_)
    refine packed_congr _ ?_ ?_
    · dsimp only [item, source]
      rw [e0, e1]
      omega
    · dsimp only; rw [e1]

/-- Every piece the loop leaves is one of a trip's. -/
theorem pieces_are (𝒱 : Variants) (c : Dev nD) (bd : Option 𝒱.V) (i : grid0.Coords) (arg1 : Memref sig .tc .vmem S12000x256 .fp8e4m3) (harg1 : arg1.IsWhole) (arg2 : Memref sig .tc .vmem S6000x128 .i32) (harg2 : arg2.IsWhole)
    (X : BufTy.Contents (Elt F) arg1.view.ty) (n : Nat) (hn : n ≤ k0_t1_loop.trips) :
    ∀ p ∈ pb_k0_t1 (F := F) 𝒱 c bd i arg1 harg1 arg2 harg2 X n, ∃ k gh, p = piece (arg1.view.read (Elt F) X) k gh := by
  induction n with
  | zero => exact fun p hp => absurd hp List.not_mem_nil
  | succ n ih =>
    have e := pb_k0_t1_succ (F := F) 𝒱 c bd i arg1 harg1 arg2 harg2 X ⟨n, by omega⟩
    rw [show n + 1 = (⟨n, by omega⟩ : Fin k0_t1_loop.trips).val + 1 from rfl, e, trip_pieces]
    intro p hp
    rcases List.mem_append.1 hp with hp | hp
    · obtain ⟨gh, -, rfl⟩ := List.mem_map.1 hp
      exact ⟨_, _, rfl⟩
    · exact ih (by omega) p hp

/-- Pieces of the trips that cover the block leave `packedBlock`. -/
theorem read_of_pieces (x : Vec F S12000x256 .fp8e4m3) (L : List (View.Piece (Elt F) S6000x128 .i32))
    (hL : ∀ p ∈ L, ∃ k gh, p = piece x k gh) (hcov : ∀ y : S6000x128.Idx, ∃ p ∈ L, y ∈ p.1.set) :
    VO0_1.read (Elt F) (VO0_1.writes (Elt F) VO0_1.junk L) = packedBlock x := by
  funext y
  refine View.read_writes_apply_of_pieces _ _ _ _ (fun p hp z => ?_) y (hcov y)
  obtain ⟨k, gh, rfl⟩ := hL p hp
  exact piece_apply x k gh z

theorem run_pieces_are (c : Dev nD) (i : grid0.Coords) (arg1 : Memref sig .tc .vmem S12000x256 .fp8e4m3) (harg1 : arg1.IsWhole) (arg2 : Memref sig .tc .vmem S6000x128 .i32) (harg2 : arg2.IsWhole)
    (x : Vec F S12000x256 .fp8e4m3) : ∀ p ∈ (kernelRun0_A c i arg1 harg1 arg2 harg2 x).1, ∃ k gh, p = piece x k gh := by
  rw [run_pieces]
  have h := pieces_are (F := F) Variants.none c none i arg1 harg1 arg2 harg2 (harg1.unread x) _ le_rfl
  rw [harg1.read_unread] at h
  exact h

/-- What the body leaves in its output block. -/
theorem out_eq (c : Dev nD) (i : grid0.Coords) (arg1 : Memref sig .tc .vmem S12000x256 .fp8e4m3) (harg1 : arg1.IsWhole) (arg2 : Memref sig .tc .vmem S6000x128 .i32) (harg2 : arg2.IsWhole)
    (x : Vec F S12000x256 .fp8e4m3) : out0_A_1 c i arg1 harg1 arg2 harg2 x = packedBlock x := by
  unfold out0_A_1
  exact read_of_pieces x _ (run_pieces_are c i arg1 harg1 arg2 harg2 x) (cover0_A_1 c i arg1 harg1 arg2 harg2 x)

end Cert.Relayout.Pack

end
-- ==== Proof.PackRun.lean ====
/- The relayout kernel's run: every word of the result by the item and the dimensions whose codes it holds. -/
module

public import proofs.«01_k».proof.Proof.PackBlock
public import Idealize.ShloMosaic.Lib.StableHlo.ReadAt
public import Idealize.ShloMosaic.Lib.Pipeline.Value

@[expose] public section

set_option maxRecDepth 16384

noncomputable section

namespace Cert.Relayout.Pack

open Cert.Relayout Cert.Relayout.Gen
open Idealize.ShloMosaic Idealize.ShloMosaic.TcCoe Idealize.SL.Sem
open Idealize.ShloMosaic.Pipeline (Dat)

variable {F : FTy → Type} [BitOps F]

variable (m : (ℓ : Loc nD τ sig) → Buf (Elt F) ℓ) (ρ : Dev nD → PrngReg)

/-- The code bytes of the argument. -/
def bytes (A : Vec F S900000x256 .fp8e4m3) : S900000x256.Idx → BitVec 8 := bitcastToInt (F := F) (s := S900000x256) (φ := .fp8e4m3) A

/-- The item in row `R`, lane `l` of the array of 128-lane rows. -/
def rowItem (R : Fin 450000) (l : Fin 128) : Fin 900000 :=
  ⟨32 * (R.val / 16) + 4 * (R.val % 8) + 2 * (l.val / 64) + R.val % 16 / 8, by omega⟩

/-- The item in row `q` of the result. -/
def outItem (q : Fin 900000) : Fin 900000 :=
  ⟨32 * (q.val / 32) + 4 * (q.val % 16 / 2) + 2 * (q.val % 2) + q.val % 32 / 16, by omega⟩

/-- The packed words as rows of 128 lanes. -/
def wideArr (c : Dev nD) : Buf (Elt F) ((c : Thread nD τ).loc main_v0) := fun y : S450000x128.Idx =>
  packed (bytes (m ((c : Thread nD τ).loc main_arg0))) (rowItem (y 0) (y 1)) ⟨(y 1).val % 64, Nat.mod_lt _ (by decide)⟩

/-- The packed words of every item, in the result's order. -/
def outVal (A : Vec F S900000x256 .fp8e4m3) : Vec F S900000x64 .i32 := fun y => packed (bytes A) (outItem (y 0)) (y 1)

/-- The result. -/
def outArr (c : Dev nD) : Buf (Elt F) ((c : Thread nD τ).loc main_v1) := outVal (m ((c : Thread nD τ).loc main_arg0))

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])

theorem t_lt (t : Fin cfg0.N) : t.val < 75 := by have := t.isLt; have h : cfg0.N = 75 := N_0; omega

/-- The block the grid point reads. -/
theorem blk0_apply (c : Dev nD) (t : Fin cfg0.N) (r : Fin 12000) (d : Fin 256) : (iblk m c 0 t : Vec F S12000x256 .fp8e4m3) (ix2 r d)
    = m ((c : Thread nD τ).loc main_arg0) (ix2 ⟨12000 * t.val + r.val, by have := t_lt t; omega⟩ d) := by
  rw [← V_main_arg0 m c]
  unfold iblk
  show V m c main_arg0 (((cfg0.win 0).blk t).view.emb (ix2 r d)) = _
  refine congrArg (V m c main_arg0) (funext fun a => Fin.ext ?_)
  match a with
  | 0 => show win0_0.index t 0 * 12000 + 1 * r.val = 12000 * t.val + r.val; rw [idx0]; show t.val * 12000 + 1 * r.val = _; omega
  | 1 => show win0_0.index t 1 * 256 + 1 * d.val = d.val; rw [idx0]; show 0 * 256 + 1 * d.val = d.val; omega

theorem packed_block (c : Dev nD) (t : Fin cfg0.N) (n : Fin 12000) (w : Fin 64) :
    packed (bitcastToInt (F := F) (s := S12000x256) (φ := .fp8e4m3) (iblk m c 0 t)) n w
      = packed (bytes (m ((c : Thread nD τ).loc main_arg0))) ⟨12000 * t.val + n.val, by have := t_lt t; omega⟩ w := by
  have hb : ∀ (r : Fin 12000) (d : Fin 256), bitcastToInt (F := F) (s := S12000x256) (φ := .fp8e4m3) (iblk m c 0 t) (ix2 r d)
      = bytes (m ((c : Thread nD τ).loc main_arg0)) (ix2 ⟨12000 * t.val + r.val, by have := t_lt t; omega⟩ d) := fun r d =>
    congrArg (BitOps.toBits (F := F) (φ := .fp8e4m3)) (blk0_apply m c t r d)
  unfold packed
  rw [hb, hb, hb, hb]

theorem emb1 (t : Fin cfg0.N) (r : Fin 6000) (l : Fin 128) :
    ((cfg0.win 1).blk t).view.emb (ix2 r l) = (ix2 ⟨6000 * t.val + r.val, by have := t_lt t; omega⟩ l : S450000x128.Idx) := by
  funext a
  match a with
  | 0 => apply Fin.ext; show win0_1.index t 0 * 6000 + 1 * r.val = 6000 * t.val + r.val; rw [idx1]; show t.val * 6000 + 1 * r.val = _; omega
  | 1 => apply Fin.ext; show win0_1.index t 1 * 128 + 1 * l.val = l.val; rw [idx1]; show 0 * 128 + 1 * l.val = l.val; omega

theorem flushed1 (c : Dev nD) (t : Fin cfg0.N) : (dats m 0 c).flushed 1 t = ((cfg0.win 1).blk t).view.read (Elt F) (wideArr m c) := by
  show (cfg0.win 1).cut (grid0.coords t) ((dats m 0 c).after 1 t) = _
  rw [after0_1]
  unfold outsAt0
  rw [out_eq]
  have ht := t_lt t
  have key : ∀ y : S6000x128.Idx, packedBlock (F := F) (iblk m c 0 t) y = wideArr m c (((cfg0.win 1).blk t).view.emb y) := by
    intro y
    idx_vars y
    rw [emb1]
    refine (packed_block m c t _ _).trans ?_
    refine packed_congr _ ?_ rfl
    dsimp only [source, rowItem]
    simp only [ix2]
    omega
  exact funext key

theorem cover1 (i : S450000x128.Idx) : ∃ t : Fin cfg0.N, (cfg0.win 1).flush t = true ∧ i ∈ ((cfg0.win 1).blk t).view.set := by
  have hN : cfg0.N = 75 := N_0
  have h0 : (i 0).val < 450000 := (i 0).isLt
  have ht : (i 0).val / 6000 < cfg0.N := by omega
  refine ⟨⟨(i 0).val / 6000, ht⟩, flush0_1 _, ?_⟩
  have h := emb1 ⟨(i 0).val / 6000, ht⟩ ⟨(i 0).val % 6000, Nat.mod_lt _ (by decide)⟩ (i 1)
  have hi : i = (ix2 ⟨6000 * ((i 0).val / 6000) + (i 0).val % 6000, by omega⟩ (i 1) : S450000x128.Idx) := by
    funext a
    match a with
    | 0 => apply Fin.ext; show (i 0).val = 6000 * ((i 0).val / 6000) + (i 0).val % 6000; omega
    | 1 => rfl
  have hm := View.emb_mem_set ((cfg0.win 1).blk ⟨(i 0).val / 6000, ht⟩).view (ix2 ⟨(i 0).val % 6000, Nat.mod_lt _ (by decide)⟩ (i 1))
  rw [h.trans hi.symm] at hm
  exact hm

/-- The host reshape after the call, over any contents `W` that hold the words. -/
theorem reshaped (c : Dev nD) (W : Valuation τ sig (Elt F)) (hW : W (Proc.devRef .tc main_v0) = wideArr m c) :
    StableHlo.after (List.flatten [hostOps1]) W (Proc.devRef .tc main_v1) = outArr m c := by
  have key : ∀ y : S900000x64.Idx, (StableHlo.after (List.flatten [hostOps1]) W (Proc.devRef .tc main_v1) : Vec F S900000x64 .i32) y = outArr m c y := by
    intro y
    idx_vars y
    after_reads_at
    refine (congrFun hW _).trans ?_
    refine packed_congr _ ?_ ?_
    · dsimp only [rowItem, outItem]
      simp only [ix2]
      omega
    · simp only [ix2]
      omega
  exact funext key

theorem tail_v1 (c : Dev nD) : Pipeline.afterTail₀ cfgs (dats m) 0 (V0 m) [hostOps1] c main_v1 = outArr m c :=
  reshaped m c _ ((Pipeline.withArrays_arr _ launch0.win.arr_inj c (V0 m c) _ 1).trans
    ((dats m 0 c).arrAt_eq_of_cover 1 (wideArr m c) (fun t _ => flushed1 m c t) cover1))

/-- The kernel's run: the result holds every item's packed words, the argument is unchanged. -/
theorem run : θ_run defs (onTc (τ := τ) (main (F := F))) ⟨m, fun _ => 0, ρ⟩ fun r => ∀ c : Dev nD,
      r.2.mem ((c : Thread nD τ).loc main_v1) = outArr m c
      ∧ r.2.mem ((c : Thread nD τ).loc main_arg0) = m ((c : Thread nD τ).loc main_arg0) :=
  (θ_run defs _ _).mono (fun r h c => ⟨((h.1 c).2 main_v1 (Pipeline.mem_restRefs_of main_v1 (by decide) (by decide))).trans (tail_v1 m c), h.2 c⟩)
    (θ_run_and (run_main m ρ) (unchanged m ρ))

end Cert.Relayout.Pack

end
-- ==== Proof.PackRef.lean ====
/- The relayout reference's run: the same words of the same items. -/
module

public import proofs.«01_k».proof.Proof.Gen.RelayoutReference
public import proofs.«01_k».proof.Proof.PackRun
public import Idealize.ShloMosaic.Lib.Claim
public import Idealize.ShloMosaic.Lib.Quiescent
public import Idealize.ShloMosaic.Lib.StableHlo.RunHlo
public import Idealize.ShloMosaic.Lib.StableHlo.ReadAt

@[expose] public section

set_option maxRecDepth 16384

noncomputable section

namespace Cert.RelayoutReference.Pack

open Cert.RelayoutReference Cert.RelayoutReference.Gen Cert.Relayout.Pack
open Idealize.ShloMosaic Idealize.ShloMosaic.TcCoe Idealize.SL.Sem

variable {F : FTy → Type} [BitOps F]

variable (m : (ℓ : Loc nD τ sig) → Buf (Elt F) ℓ) (ρ : Dev nD → PrngReg)

/-- The result. -/
def outArr (c : Dev nD) : Buf (Elt F) ((c : Thread nD τ).loc main_v17) := outVal (F := F) (m ((c : Thread nD τ).loc main_arg0))

/-- The words of every item, in item order, as the reference computes them. -/
def words (A : Vec F S900000x256 .fp8e4m3) : IVec S900000x64 32 :=
  ori
    (ori
      (ori (extractStridedSlice S900000x64 ![0, 0] (extui 32 (bitcastToInt A) natLt_8_32) slices_S900000x256_S900000x64_0_0)
        (Host.shli (extractStridedSlice S900000x64 ![0, 128] (extui 32 (bitcastToInt A) natLt_8_32) slices_S900000x256_S900000x64_0_128)
          (broadcastInDim S900000x64 ![] bcast_S_S900000x64 (constantI S_ 32 8#32))))
      (Host.shli (extractStridedSlice S900000x64 ![0, 64] (extui 32 (bitcastToInt A) natLt_8_32) slices_S900000x256_S900000x64_0_64)
        (broadcastInDim S900000x64 ![] bcast_S_S900000x64 (constantI S_ 32 16#32))))
    (Host.shli (extractStridedSlice S900000x64 ![0, 192] (extui 32 (bitcastToInt A) natLt_8_32) slices_S900000x256_S900000x64_0_192)
      (broadcastInDim S900000x64 ![] bcast_S_S900000x64 (constantI S_ 32 24#32)))

theorem words_apply (A : Vec F S900000x256 .fp8e4m3) (n : Fin 900000) (w : Fin 64) : words A (ix2 n w) = packed (bytes A) n w := by
  pointwise [words]
  rfl

/-- The words in the result's order, as the reference arranges them. -/
def arranged (v : IVec S900000x64 32) : IVec S900000x64 32 :=
  shapeCast S900000x64 (transpose S28125x2x8x2x64 [0, 3, 1, 2, 4] (shapeCast S28125x8x2x2x64 v shapeCasts_S900000x64_S28125x8x2x2x64)
    transposes_S28125x8x2x2x64_S28125x2x8x2x64_0_3_1_2_4) shapeCasts_S28125x2x8x2x64_S900000x64

theorem arranged_apply (v : IVec S900000x64 32) (q : Fin 900000) (w : Fin 64) : arranged v (ix2 q w) = v (ix2 (outItem q) w) := by
  pointwise [arranged]
  refine congrArg v (congrArg₂ ix2 (Fin.ext ?_) rfl)
  show q.val / 32 * 32 + q.val / 2 % 8 * 4 + q.val % 2 * 2 + q.val / 16 % 2 = 32 * (q.val / 32) + 4 * (q.val % 16 / 2) + 2 * (q.val % 2) + q.val % 32 / 16
  omega

set_option maxHeartbeats 1600000 in
/-- The reference's run: the result holds every item's packed words, the argument is unchanged. -/
theorem run : θ_run defs (onTc (τ := τ) (main (F := F))) ⟨m, fun _ => 0, ρ⟩ fun r => ∀ c : Dev nD,
      r.2.mem ((c : Thread nD τ).loc main_v17) = outArr m c
      ∧ r.2.mem ((c : Thread nD τ).loc main_arg0) = m ((c : Thread nD τ).loc main_arg0) := by
  hlo_run
  have key : ∀ y : S900000x64.Idx, arranged (words (m ((c : Thread nD τ).loc main_arg0))) y = outArr m c y := by
    intro y
    idx_vars y
    rw [arranged_apply, words_apply]
    rfl
  exact funext key

/-- The reference's frame. -/
theorem frame : θ_run defs (onTc (τ := τ) (main (F := F))) ⟨m, fun _ => 0, ρ⟩ fun r => (∀ c : Dev nD,
      r.2.mem ((c : Thread nD τ).loc main_arg0) = m ((c : Thread nD τ).loc main_arg0)) ∧ r.2.sem = fun _ => 0 :=
  (θ_run defs _ _).mono (fun r h => ⟨fun c => (h c).2, sem_eq_zero_of_no_sems rfl _⟩) (run m ρ)

end Cert.RelayoutReference.Pack

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_real
public import proofs.«01_k».proof.Proof.Gen.Relayout
public import proofs.«01_k».proof.Proof.Gen.Relayout.Skeleton
public import proofs.«01_k».proof.Proof.Gen.Relayout.Loops
public import proofs.«01_k».proof.Proof.Gen.Relayout.Launch
public import proofs.«01_k».proof.Proof.Gen.Relayout.Points
public import proofs.«01_k».proof.Proof.Gen.Relayout.Frame
public import proofs.«01_k».proof.Proof.Gen.RelayoutReference
public import proofs.«01_k».proof.Proof.Body
public import proofs.«01_k».proof.Proof.KernelBody
public import proofs.«01_k».proof.Proof.KernelRun
public import proofs.«01_k».proof.Proof.RefRun
public import proofs.«01_k».proof.Proof.Finite
public import proofs.«01_k».proof.Proof.PackRun
public import proofs.«01_k».proof.Proof.PackRef
public import Idealize.ShloMosaic.Adequacy
public import Idealize.ShloMosaic.Init

@[expose] public section

noncomputable section

namespace Cert.Proof

open Idealize.ShloMosaic Idealize.SL.Sem Cert.Kernel

theorem claim : Cert.Claim := by
  refine ⟨Cert.Kernel.Gen.facts, Cert.KernelIdeal.Gen.facts, Cert.ReferenceIdeal.Gen.facts, Cert.Relayout.Gen.facts, Cert.RelayoutReference.Gen.facts, Cert.Pre_real.Gen.facts,
    fun m ρ _ => Cert.Kernel.Attend.frame m ρ, fun m ρ _ => Cert.KernelIdeal.Attend.frame m ρ, fun m ρ _ => Cert.KernelIdeal.Attend.frame m ρ,
    fun m ρ _ => Cert.ReferenceIdeal.Gen.frame m ρ, fun m ρ _ => Cert.ReferenceIdeal.Gen.frame m ρ,
    fun m ρ _ => Cert.Relayout.Gen.frame m ρ, fun m ρ _ => Cert.RelayoutReference.Pack.frame m ρ, trivial, fun m ρ m' ρ' hpre hargs => ?_, fun m ρ m' ρ' _ hargs => ?_⟩
  rotate_left
  · refine ⟨fun c => Cert.Relayout.Pack.outArr m c, Cert.Relayout.Pack.run m ρ, ?_⟩
    refine (θ_run _ _ _).mono (fun r h c => ⟨(h c).1.trans ?_, (h c).2⟩) (Cert.RelayoutReference.Pack.run m' ρ')
    unfold Cert.RelayoutReference.Pack.outArr Cert.Relayout.Pack.outArr
    rw [hargs c]
  have hreal : Cert.KernelIdeal.Attend.RealScores m := fun c b =>
    haveI := Cert.Pre_real.Gen.facts
    Cert.Pre_real.scores_real _ _ _ (hpre c) b
  refine ⟨fun c => Cert.KernelIdeal.Attend.pooledArr m c, fun c => Cert.KernelIdeal.Attend.attnOut m c, Cert.KernelIdeal.Attend.run m ρ hreal, ?_⟩
  refine (θ_run _ _ _).mono (fun r h c => ?_) (Cert.ReferenceIdeal.Attend.run m' ρ')
  obtain ⟨h0, h1, hk⟩ := h c
  obtain ⟨a0, a1, a2⟩ := hargs c
  refine ⟨h0.trans ?_, h1.trans ?_, hk⟩
  · unfold Cert.ReferenceIdeal.Attend.pooledArr Cert.KernelIdeal.Attend.pooledArr
    rw [a0, a1, a2]
  · unfold Cert.ReferenceIdeal.Attend.attnArr Cert.KernelIdeal.Attend.attnOut
    rw [a0, a1, a2]

end Cert.Proof

end
